-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x32 : Shape := ⟨2, ![512, 32]⟩
abbrev S1024x1 : Shape := ⟨2, ![1024, 1]⟩
abbrev S4x512x1024 : Shape := ⟨3, ![4, 512, 1024]⟩
abbrev S128x1024 : Shape := ⟨2, ![128, 1024]⟩
abbrev S1024x4 : Shape := ⟨2, ![1024, 4]⟩
abbrev S8x128x1024 : Shape := ⟨3, ![8, 128, 1024]⟩
abbrev S8 : Shape := ⟨1, ![8]⟩
abbrev S_ : Shape := ⟨0, ![]⟩
abbrev S1x1024 : Shape := ⟨2, ![1, 1024]⟩
abbrev S4x1024 : Shape := ⟨2, ![4, 1024]⟩
abbrev S1024x1024 : Shape := ⟨2, ![1024, 1024]⟩
abbrev S32x1024 : Shape := ⟨2, ![32, 1024]⟩
abbrev S128x512 : Shape := ⟨2, ![128, 512]⟩
abbrev S32x512 : Shape := ⟨2, ![32, 512]⟩
abbrev S1x512x1024 : Shape := ⟨3, ![1, 512, 1024]⟩
abbrev S512x1024 : Shape := ⟨2, ![512, 1024]⟩
abbrev S128x32 : Shape := ⟨2, ![128, 32]⟩
abbrev S128x4 : Shape := ⟨2, ![128, 4]⟩
abbrev S128x1 : Shape := ⟨2, ![128, 1]⟩
abbrev S128x128 : Shape := ⟨2, ![128, 128]⟩
abbrev S1x128x1024 : Shape := ⟨3, ![1, 128, 1024]⟩
abbrev S1 : Shape := ⟨1, ![1]⟩

abbrev nBuf : Space → Nat
  | .hbm => 5
  | .vmem => 8
  | .smem => 0
  | _ => 0

abbrev bufTy : (tb : Table) → Fin (tcTables nBuf tb) → BufTy
  | .hbm, ⟨0, _⟩ => ⟨S1024x512, .f32⟩
  | .hbm, ⟨1, _⟩ => ⟨S512x32, .f32⟩
  | .hbm, ⟨2, _⟩ => ⟨S1024x1, .i32⟩
  | .hbm, ⟨3, _⟩ => ⟨S4x512x1024, .f32⟩
  | .hbm, ⟨4, _⟩ => ⟨S128x1024, .f32⟩
  | .local _ .vmem, ⟨0, _⟩ => ⟨S1024x512, .f32⟩
  | .local _ .vmem, ⟨1, _⟩ => ⟨S1024x1, .i32⟩
  | .local _ .vmem, ⟨2, _⟩ => ⟨S4x512x1024, .f32⟩
  | .local _ .vmem, ⟨3, _⟩ => ⟨S128x1024, .f32⟩
  | .local _ .vmem, ⟨4, _⟩ => ⟨S1024x4, .i32⟩
  | .local _ .vmem, ⟨5, _⟩ => ⟨S1024x4, .f32⟩
  | .local _ .vmem, ⟨6, _⟩ => ⟨S8x128x1024, .bf16⟩
  | .local _ .vmem, ⟨7, _⟩ => ⟨S8x128x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_56 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v136 : BitVec 32 := Scalar.addi v2 c1_i32_56
  let c8_i32_57 : BitVec 32 := 8#32
  let v137 : BitVec 32 := Scalar.remsi v136 c8_i32_57
  let c128_i32 : BitVec 32 := 128#32
  let v138 : BitVec 32 := Scalar.muli v137 c128_i32
  let v139 : Index := Scalar.indexCast v138
  let c0_58 : Index := 0#32
  ![v139.toNat, 0]
def k0_dev8 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_56 : BitVec 32 := 1#32
  let v136 : BitVec 32 := Scalar.addi v2 c1_i32_56
  let c8_i32_57 : BitVec 32 := 8#32
  let v137 : BitVec 32 := Scalar.remsi v136 c8_i32_57
  let c1_i32_73 : BitVec 32 := 1#32
  let v194 : BitVec 32 := Scalar.muli v137 c1_i32_73
  let v195 : BitVec 32 := Scalar.addi c0_i32_74 v194
  v195.toNat
def k0_dev9 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_79 : BitVec 32 := 2#32
  let v204 : BitVec 32 := Scalar.addi v2 c2_i32_79
  let c8_i32_80 : BitVec 32 := 8#32
  let v205 : BitVec 32 := Scalar.remsi v204 c8_i32_80
  let c1_i32_97 : BitVec 32 := 1#32
  let v262 : BitVec 32 := Scalar.muli v205 c1_i32_97
  let v263 : BitVec 32 := Scalar.addi c0_i32_98 v262
  v263.toNat
def k0_dev10 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_103 : BitVec 32 := 3#32
  let v272 : BitVec 32 := Scalar.addi v2 c3_i32_103
  let c8_i32_104 : BitVec 32 := 8#32
  let v273 : BitVec 32 := Scalar.remsi v272 c8_i32_104
  let c1_i32_121 : BitVec 32 := 1#32
  let v330 : BitVec 32 := Scalar.muli v273 c1_i32_121
  let v331 : BitVec 32 := Scalar.addi c0_i32_122 v330
  v331.toNat
def k0_dev11 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_127 : BitVec 32 := 4#32
  let v340 : BitVec 32 := Scalar.addi v2 c4_i32_127
  let c8_i32_128 : BitVec 32 := 8#32
  let v341 : BitVec 32 := Scalar.remsi v340 c8_i32_128
  let c1_i32_144 : BitVec 32 := 1#32
  let v398 : BitVec 32 := Scalar.muli v341 c1_i32_144
  let v399 : BitVec 32 := Scalar.addi c0_i32_145 v398
  v399.toNat
def k0_dev12 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_150 : BitVec 32 := 5#32
  let v408 : BitVec 32 := Scalar.addi v2 c5_i32_150
  let c8_i32_151 : BitVec 32 := 8#32
  let v409 : BitVec 32 := Scalar.remsi v408 c8_i32_151
  let c1_i32_167 : BitVec 32 := 1#32
  let v466 : BitVec 32 := Scalar.muli v409 c1_i32_167
  let v467 : BitVec 32 := Scalar.addi c0_i32_168 v466
  v467.toNat
def k0_dev13 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_173 : BitVec 32 := 6#32
  let v476 : BitVec 32 := Scalar.addi v2 c6_i32_173
  let c8_i32_174 : BitVec 32 := 8#32
  let v477 : BitVec 32 := Scalar.remsi v476 c8_i32_174
  let c1_i32_190 : BitVec 32 := 1#32
  let v534 : BitVec 32 := Scalar.muli v477 c1_i32_190
  let v535 : BitVec 32 := Scalar.addi c0_i32_191 v534
  v535.toNat
def k0_dev14 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_196 : BitVec 32 := 7#32
  let v544 : BitVec 32 := Scalar.addi v2 c7_i32_196
  let c8_i32_197 : BitVec 32 := 8#32
  let v545 : BitVec 32 := Scalar.remsi v544 c8_i32_197
  let c1_i32_213 : BitVec 32 := 1#32
  let v602 : BitVec 32 := Scalar.muli v545 c1_i32_213
  let v603 : BitVec 32 := Scalar.addi c0_i32_214 v602
  v603.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_219 : BitVec 32 := 128#32
  let v612 : BitVec 32 := Scalar.muli v2 c128_i32_219
  let v613 : Index := Scalar.indexCast v612
  let c0_220 : Index := 0#32
  ![v613.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x512 : Shape := ⟨2, ![1024, 512]⟩
abbrev S512x32 : Shape := ⟨2, ![512, 32]⟩
abbrev S1024x1 : Shape := ⟨2, ![1024, 1]⟩
abbrev S32x512x1024 : Shape := ⟨3, ![32, 512, 1024]⟩
abbrev S32 : Shape := ⟨1, ![32]⟩
abbrev S1x32 : Shape := ⟨2, ![1, 32]⟩
abbrev S1024x32 : Shape := ⟨2, ![1024, 32]⟩
abbrev S_ : Shape := ⟨0, ![]⟩
abbrev S1024x32x1024 : Shape := ⟨3, ![1024, 32, 1024]⟩
abbrev S1024x32x1 : Shape := ⟨3, ![1024, 32, 1]⟩
abbrev S1024x1024 : Shape := ⟨2, ![1024, 1024]⟩

abbrev nBuf : Space → Nat
  | .hbm => 27
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x32, .f32⟩
  | .hbm, ⟨2, _⟩ => ⟨S1024x1, .i32⟩
  | .hbm, ⟨3, _⟩ => ⟨S32x512x1024, .f32⟩
  | .hbm, ⟨4, _⟩ => ⟨S32, .i32⟩
  | .hbm, ⟨5, _⟩ => ⟨S1x32, .i32⟩
  | .hbm, ⟨6, _⟩ => ⟨S1024x32, .i32⟩
  | .hbm, ⟨7, _⟩ => ⟨S1024x32, .i32⟩
  | .hbm, ⟨8, _⟩ => ⟨S1024x32, .i1⟩
  | .hbm, ⟨9, _⟩ => ⟨S1024x32, .i32⟩
  | .hbm, ⟨10, _⟩ => ⟨S_, .i32⟩
  | .hbm, ⟨11, _⟩ => ⟨S_, .i32⟩
  | .hbm, ⟨12, _⟩ => ⟨S1024x32, .i32⟩
  | .hbm, ⟨13, _⟩ => ⟨S1024x32, .i32⟩
  | .hbm, ⟨14, _⟩ => ⟨S_, .i32⟩
  | .hbm, ⟨15, _⟩ => ⟨S1024x32, .i32⟩
  | .hbm, ⟨16, _⟩ => ⟨S1024x32, .i1⟩
  | .hbm, ⟨17, _⟩ => ⟨S1024x32, .i1⟩
  | .hbm, ⟨18, _⟩ => ⟨S1024x32x1024, .f32⟩
  | .hbm, ⟨19, _⟩ => ⟨S1024x32x1, .i1⟩
  | .hbm, ⟨20, _⟩ => ⟨S_, .f32⟩
  | .hbm, ⟨21, _⟩ => ⟨S_, .f32⟩
  | .hbm, ⟨22, _⟩ => ⟨S1024x32x1024, .i1⟩
  | .hbm, ⟨23, _⟩ => ⟨S1024x32x1024, .f32⟩
  | .hbm, ⟨24, _⟩ => ⟨S1024x32x1024, .f32⟩
  | .hbm, ⟨25, _⟩ => ⟨S_, .f32⟩
  | .hbm, ⟨26, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Proof.Flat.lean ====
/-
# The kernel body as five loops

The printed body is a straight line: seven signals, a wait, the local computation, seven (compute a chunk, store it,
send it), the chunk kept, seven waits for arrivals, seven waits for departures, the sum. Here the same program is
written with its loops back, each loop one function of the offset `k : Fin 7` (the peer at distance `k + 1`), so that
the proof needs one lemma per loop body. The equality with the printed text is by definition.
-/
module

public import proofs.«01_k».proof.Proof.Gen.KernelIdeal
public import proofs.«01_k».proof.Proof.Gen.KernelIdeal.Skeleton

@[expose] public section

noncomputable section

namespace Cert.MoE

open Cert.KernelIdeal Cert.KernelIdeal.Gen
open Idealize.ShloMosaic Idealize.SL.Sem

variable {F : FTy → Type} [FloatOps F]

/-! ## The memrefs -/

abbrev xM : Memref sig .tc .vmem S1024x512 .f32 := Memref.whole cc0_stg0_0
abbrev riM : Memref sig .tc .vmem S1024x1 .i32 := Memref.whole cc0_stg1_0
abbrev wM : Memref sig .tc .vmem S4x512x1024 .f32 := Memref.whole cc0_stg2_0
abbrev oM : Memref sig .tc .vmem S128x1024 .f32 := Memref.whole cc0_stg3_0
abbrev rankM : Memref sig .tc .vmem S1024x4 .i32 := Memref.whole cc0_scratch0
abbrev indM : Memref sig .tc .vmem S1024x4 .f32 := Memref.whole cc0_scratch1
abbrev sM : Memref sig .tc .vmem S8x128x1024 .bf16 := Memref.whole cc0_scratch2
abbrev rM : Memref sig .tc .vmem S8x128x1024 .bf16 := Memref.whole cc0_scratch3

theorem slot_inb (s : Fin 8) : ∀ a, (![s.val, 0, 0] : Fin 3 → ℕ) a + S1x128x1024.size a ≤ S8x128x1024.size a := by
  revert s; decide
theorem sem_inb (s : Fin 8) : ∀ a, (![s.val] : Fin 1 → ℕ) a + S1.size a ≤ S8.size a := by
  revert s; decide
theorem wslice_inb (j : Fin 4) : ∀ a, (![j.val, 0, 0] : Fin 3 → ℕ) a + S1x512x1024.size a ≤ S4x512x1024.size a := by
  revert j; decide

/-- Slot `s` of one of the two eight-slot buffers, as a rectangle; -/
abbrev slotR (s : Fin 8) : Rect S8x128x1024 := Rect.unit (s := S8x128x1024) ![s.val, 0, 0] S1x128x1024.size (slot_inb s)
/-- that slot of the send buffer, and of the receive buffer, as 128 × 1024 blocks. -/
abbrev sSlot (s : Fin 8) : Memref sig .tc .vmem S128x1024 .bf16 :=
  (sM.slice (slotR s) (fun _ => rfl)).squeeze S128x1024 squeezes_S1x128x1024_S128x1024
abbrev rSlot (s : Fin 8) : Memref sig .tc .vmem S128x1024 .bf16 :=
  (rM.slice (slotR s) (fun _ => rfl)).squeeze S128x1024 squeezes_S1x128x1024_S128x1024

/-- The runtime's barrier semaphore and the send and receive semaphores of a slot. -/
abbrev barS : Sem sig := (SemArray.scalar (sig.barrier 0 rfl) : Sems sig S_).sem
abbrev sSem (s : Fin 8) : DmaSem sig :=
  (((cc0_scratch4 : DmaSems sig S8).slice (Rect.unit (s := S8) ![s.val] S1.size (sem_inb s))).squeeze S_ squeezes_S1_S_).sem
abbrev rSem (s : Fin 8) : DmaSem sig :=
  (((cc0_scratch5 : DmaSems sig S8).slice (Rect.unit (s := S8) ![s.val] S1.size (sem_inb s))).squeeze S_ squeezes_S1_S_).sem

theorem slot_words (k : Fin 7) : (slotR k.succ).WholeWords (EltTy.packing .bf16) := by
  fin_cases k
  · exact wordsbf16_S8x128x1024_S1x128x1024_1_0_0
  · exact wordsbf16_S8x128x1024_S1x128x1024_2_0_0
  · exact wordsbf16_S8x128x1024_S1x128x1024_3_0_0
  · exact wordsbf16_S8x128x1024_S1x128x1024_4_0_0
  · exact wordsbf16_S8x128x1024_S1x128x1024_5_0_0
  · exact wordsbf16_S8x128x1024_S1x128x1024_6_0_0
  · exact wordsbf16_S8x128x1024_S1x128x1024_7_0_0
theorem slot_packed (s : Fin 8) : (slotR s).PackedRows (EltTy.packing .bf16) := by
  fin_cases s
  · exact packedbf16_S8x128x1024_S1x128x1024_0_0_0
  · exact packedbf16_S8x128x1024_S1x128x1024_1_0_0
  · exact packedbf16_S8x128x1024_S1x128x1024_2_0_0
  · exact packedbf16_S8x128x1024_S1x128x1024_3_0_0
  · exact packedbf16_S8x128x1024_S1x128x1024_4_0_0
  · exact packedbf16_S8x128x1024_S1x128x1024_5_0_0
  · exact packedbf16_S8x128x1024_S1x128x1024_6_0_0
  · exact packedbf16_S8x128x1024_S1x128x1024_7_0_0

theorem sSlot_exact (k : Fin 7) : (sSlot k.succ).view.WordExact :=
  ((Memref.isWhole_whole (κ := .tc) (cc0_scratch2 : Ref sig .tc)).wordExact_slice rfl _ (slot_words k)).reshape _ _
theorem rSlot_exact (k : Fin 7) : (rSlot k.succ).view.WordExact :=
  ((Memref.isWhole_whole (κ := .tc) (cc0_scratch3 : Ref sig .tc)).wordExact_slice rfl _ (slot_words k)).reshape _ _
theorem sSlot_stores (s : Fin 8) : (sM.access (slotR s)).Stores Finset.univ :=
  View.stores_vmem h_S1x128x1024 ((Memref.isWhole_whole (κ := .tc) (cc0_scratch2 : Ref sig .tc)).storeExact_slice rfl _ (slot_packed s)) (fun _ => rfl)
theorem rSlot_stores (s : Fin 8) : (rM.access (slotR s)).Stores Finset.univ :=
  View.stores_vmem h_S1x128x1024 ((Memref.isWhole_whole (κ := .tc) (cc0_scratch3 : Ref sig .tc)).storeExact_slice rfl _ (slot_packed s)) (fun _ => rfl)

/-! ## The payloads -/

/-- The device's position as the word the kernel computes with. -/
abbrev devW (d : Dev nD) : BitVec 32 := Scalar.remsi (Scalar.divsi (Dev.word d) 1#32) 8#32

/-- The table of prefix counts, and of local one-hots, from the routing column; -/
def rankV (d : Dev nD) (r : Vec F S1024x1 .i32) : Vec F S1024x4 .i32 := k0_pay5 (F := F) (devW d) r
def indV (d : Dev nD) (r : Vec F S1024x1 .i32) : Vec F S1024x4 .f32 := k0_pay6 (k0_pay2 (F := F) (devW d) r)
/-- the dispatch table (one row per expert and rank below the capacity); -/
def dispV (d : Dev nD) (r : Vec F S1024x1 .i32) : FVec F S128x1024 .f32 := k0_pay7 (k0_pay3 (F := F) (devW d) r) k0_pay4
/-- the experts' outputs on the dispatched tokens; -/
def yV (d : Dev nD) (r : Vec F S1024x1 .i32) (x : Vec F S1024x512 .f32) (w : Fin 4 → Vec F S1x512x1024 .f32) : FVec F S128x1024 .f32 :=
  k0_pay8 (dispV d r) x (w 0) (w 1) (w 2) (w 3)
/-- a chunk of 128 tokens' outputs, from those and the chunk's rows of the two tables. -/
def chunkV (Y : FVec F S128x1024 .f32) (rj : Vec F S128x4 .i32) (ij : Vec F S128x4 .f32) : FVec F S1x128x1024 .bf16 :=
  k0_pay15 Y (iota .tc S128x32 32 [1] iota_S128x32_d1_w32) rj ij

/-! ## The program -/

/-- A loop of seven passes, in order. -/
def seq7 (f : Fin 7 → Prog (TpuEff nD τ sig (Elt F) Λ₀ .tc) PUnit) : Prog (TpuEff nD τ sig (Elt F) Λ₀ .tc) PUnit := do
  f 0; f 1; f 2; f 3; f 4; f 5; f 6

def sigDev (d : Dev nD) : Fin 7 → Dev nD :=
  ![⟨k0_dev1 d, k0_dev1_lt d⟩, ⟨k0_dev2 d, k0_dev2_lt d⟩, ⟨k0_dev3 d, k0_dev3_lt d⟩, ⟨k0_dev4 d, k0_dev4_lt d⟩,
    ⟨k0_dev5 d, k0_dev5_lt d⟩, ⟨k0_dev6 d, k0_dev6_lt d⟩, ⟨k0_dev7 d, k0_dev7_lt d⟩]
def xferDev (d : Dev nD) : Fin 7 → Dev nD :=
  ![⟨k0_dev8 d, k0_dev8_lt d⟩, ⟨k0_dev9 d, k0_dev9_lt d⟩, ⟨k0_dev10 d, k0_dev10_lt d⟩, ⟨k0_dev11 d, k0_dev11_lt d⟩,
    ⟨k0_dev12 d, k0_dev12_lt d⟩, ⟨k0_dev13 d, k0_dev13_lt d⟩, ⟨k0_dev14 d, k0_dev14_lt d⟩]

/-- The rows of chunk `me + k + 1` of the two tables, and of the device's own chunk. -/
abbrev rowsR (d : Dev nD) (k : Fin 7) : Rect S1024x4 :=
  Rect.unit (s := S1024x4) (k0_off1 d (BitVec.ofNat 32 (1 + k.val))) S128x4.size (k0_off1_inb d k)
abbrev ownR (d : Dev nD) : Rect S1024x4 := Rect.unit (s := S1024x4) (k0_off2 d) S128x4.size (k0_off2_inb d)

/-- Telling the peer at distance `k + 1` that this device has entered. -/
def sigStep (d : Dev nD) (k : Fin 7) : Prog (TpuEff nD τ sig (Elt F) Λ₀ .tc) PUnit := semSignalWord (sigDev d k) barS 1#32

/-- Loading the chunk's rows, and storing the chunk into slot `k + 1` of the send buffer. -/
def fillStep (d : Dev nD) (Y : FVec F S128x1024 .f32) (k : Fin 7) : Prog (TpuEff nD τ sig (Elt F) Λ₀ .tc) PUnit := do
  let rj : Vec F S128x4 .i32 ← Prog.lift (.load rankM (rowsR d k).toLoadRect (View.loadsAt_vmem h_S128x4))
  let ij : Vec F S128x4 .f32 ← Prog.lift (.load indM (rowsR d k).toLoadRect (View.loadsAt_vmem h_S128x4))
  let _ : Vec F S1x128x1024 .bf16 ← Prog.lift (.load sM (slotR k.succ).toLoadRect (View.loadsAt_vmem h_S1x128x1024))
  Prog.lift (.store sM (slotR k.succ) (chunkV Y rj ij) Finset.univ (sSlot_stores k.succ) (.inl rfl))

/-- Sending it to the peer at distance `k + 1`. -/
def sendStep (d : Dev nD) (k : Fin 7) : Prog (TpuEff nD τ sig (Elt F) Λ₀ .tc) PUnit :=
  Prog.lift (.enqueueDma (sSlot k.succ) (.remote (Dev.tc (xferDev d k)) (rSlot k.succ) (.dma (sSem k.succ))) (.dma (rSem k.succ))
    (sSlot_exact k) (rSlot_exact k) ⟨⟨rfl, Or.inl rfl⟩, trivial⟩)

/-- Waiting for the arrival in slot `k + 1`, and for the departure from it. -/
def recvStep (k : Fin 7) : Prog (TpuEff nD τ sig (Elt F) Λ₀ .tc) PUnit :=
  Prog.lift (.waitDma2 (rSem k.succ) (sSlot k.succ) (rSlot k.succ) (sSlot_exact k) (rSlot_exact k))
def doneStep (k : Fin 7) : Prog (TpuEff nD τ sig (Elt F) Λ₀ .tc) PUnit :=
  Prog.lift (.waitDma2 (sSem k.succ) (rSlot k.succ) (sSlot k.succ) (rSlot_exact k) (sSlot_exact k))

abbrev wR (j : Fin 4) : Rect S4x512x1024 := Rect.unit (s := S4x512x1024) ![j.val, 0, 0] S1x512x1024.size (wslice_inb j)
abbrev xR : Rect S1024x512 := Rect.unit (s := S1024x512) ![0, 0] S1024x512.size inb_S1024x512_S1024x512_0_0
abbrev riR : Rect S1024x1 := Rect.unit (s := S1024x1) ![0, 0] S1024x1.size inb_S1024x1_S1024x1_0_0
abbrev tabR : Rect S1024x4 := Rect.unit (s := S1024x4) ![0, 0] S1024x4.size inb_S1024x4_S1024x4_0_0
abbrev oR : Rect S128x1024 := Rect.unit (s := S128x1024) ![0, 0] S128x1024.size inb_S128x1024_S128x1024_0_0
abbrev bufR : Rect S8x128x1024 := Rect.unit (s := S8x128x1024) ![0, 0, 0] S8x128x1024.size inb_S8x128x1024_S8x128x1024_0_0_0

/-- The two tables and the experts' outputs. -/
def localStep (d : Dev nD) : Prog (TpuEff nD τ sig (Elt F) Λ₀ .tc) (FVec F S128x1024 .f32) := do
  let r : Vec F S1024x1 .i32 ← Prog.lift (.load riM riR.toLoadRect (View.loadsAt_vmem h_S1024x1))
  let _ : Vec F S1024x4 .i32 ← Prog.lift (.load rankM tabR.toLoadRect (View.loadsAt_vmem h_S1024x4))
  Prog.lift (.store rankM tabR (rankV d r) Finset.univ (View.stores_vmem_bits_univ h_S1024x4 rfl) (.inl rfl))
  let _ : Vec F S1024x4 .f32 ← Prog.lift (.load indM tabR.toLoadRect (View.loadsAt_vmem h_S1024x4))
  Prog.lift (.store indM tabR (indV d r) Finset.univ (View.stores_vmem_bits_univ h_S1024x4 rfl) (.inl rfl))
  let x : Vec F S1024x512 .f32 ← Prog.lift (.load xM xR.toLoadRect (View.loadsAt_vmem h_S1024x512))
  let w0 : Vec F S1x512x1024 .f32 ← Prog.lift (.load wM (wR 0).toLoadRect (View.loadsAt_vmem h_S1x512x1024))
  let w1 : Vec F S1x512x1024 .f32 ← Prog.lift (.load wM (wR 1).toLoadRect (View.loadsAt_vmem h_S1x512x1024))
  let w2 : Vec F S1x512x1024 .f32 ← Prog.lift (.load wM (wR 2).toLoadRect (View.loadsAt_vmem h_S1x512x1024))
  let w3 : Vec F S1x512x1024 .f32 ← Prog.lift (.load wM (wR 3).toLoadRect (View.loadsAt_vmem h_S1x512x1024))
  pure (k0_pay8 (dispV d r) x w0 w1 w2 w3)

/-- The device's own chunk, into slot 0 of the receive buffer. -/
def keepStep (d : Dev nD) (Y : FVec F S128x1024 .f32) : Prog (TpuEff nD τ sig (Elt F) Λ₀ .tc) PUnit := do
  let rj : Vec F S128x4 .i32 ← Prog.lift (.load rankM (ownR d).toLoadRect (View.loadsAt_vmem h_S128x4))
  let ij : Vec F S128x4 .f32 ← Prog.lift (.load indM (ownR d).toLoadRect (View.loadsAt_vmem h_S128x4))
  let _ : Vec F S1x128x1024 .bf16 ← Prog.lift (.load rM (slotR 0).toLoadRect (View.loadsAt_vmem h_S1x128x1024))
  Prog.lift (.store rM (slotR 0) (chunkV Y rj ij) Finset.univ (rSlot_stores 0) (.inl rfl))

/-- The eight slots summed, stored as the result. -/
def sumStep : Prog (TpuEff nD τ sig (Elt F) Λ₀ .tc) PUnit := do
  let all : Vec F S8x128x1024 .bf16 ← Prog.lift (.load rM bufR.toLoadRect (View.loadsAt_vmem h_S8x128x1024))
  let _ : Vec F S128x1024 .f32 ← Prog.lift (.load oM oR.toLoadRect (View.loadsAt_vmem h_S128x1024))
  Prog.lift (.store oM oR (k0_pay34 all) Finset.univ (View.stores_vmem_bits_univ h_S128x1024 rfl) (.inl rfl))

/-- The whole body. -/
def flat : Prog (TpuEff nD τ sig (Elt F) Λ₀ .tc) PUnit := do
  let d : Dev nD ← Prog.lift .deviceId
  seq7 (sigStep d)
  semWaitWord barS 7#32
  let Y : FVec F S128x1024 .f32 ← localStep d
  seq7 (fun k => do fillStep d Y k; sendStep d k)
  keepStep d Y
  seq7 recvStep
  seq7 doneStep
  sumStep

set_option maxRecDepth 65536 in
set_option maxHeartbeats 4000000 in
/-- The printed body, on the kernel's buffers, is that program. -/
theorem body_eq_flat :
    cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 = flat := rfl

end Cert.MoE

end
-- ==== Proof.Values.lean ====
/-
# What each device computes, and what the buffers hold

The peers of a device, the contents of its staged inputs, the chunk it sends each peer, and the two facts about slots:
storing a chunk into a slot, and copying a slot into the same slot of another device's buffer, both leave on the slot
what the whole eight-slot contents hold there.
-/
module

public import proofs.«01_k».proof.Proof.Flat
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.SparseCore.ProtocolKit
public import Idealize.ShloMosaic.Lib.Tactic

@[expose] public section

noncomputable section

namespace Cert.MoE

open Cert.KernelIdeal Cert.KernelIdeal.Gen
open Idealize.ShloMosaic
open Idealize.ShloMosaic.TcCoe
open Idealize.SL.Sem

variable {F : FTy → Type} [FloatOps F]

/-! ## The peers -/

/-- The device at distance `k + 1` after `c`. The device at distance `k + 1` before `c` is `peer c k.rev`. -/
def peer (c : Dev nD) (k : Fin 7) : Dev nD := ⟨(c.val + k.val + 1) % 8, Nat.mod_lt _ (by decide)⟩

theorem peer_rev (c : Dev nD) (k : Fin 7) : peer (peer c k) k.rev = c := by revert c k; decide
theorem peer_rev' (c : Dev nD) (k : Fin 7) : peer (peer c k.rev) k = c := by revert c k; decide

/-- Going to the peer at distance `k + 1` permutes the devices. -/
def peerEquiv (k : Fin 7) : Dev nD ≃ Dev nD := ⟨fun c => peer c k, fun c => peer c k.rev, fun c => peer_rev c k, fun c => peer_rev' c k⟩

/-- Reversing the distances permutes them. -/
def revEquiv : Fin 7 ≃ Fin 7 := ⟨Fin.rev, Fin.rev, Fin.rev_rev, Fin.rev_rev⟩

/-- The seven signals and the seven transfers name the peers in order. -/
theorem sigDev_eq (c : Dev nD) (k : Fin 7) : sigDev c k = peer c k := by
  fin_cases k
  · exact Fin.ext (k0_dev1_eq c)
  · exact Fin.ext (k0_dev2_eq c)
  · exact Fin.ext (k0_dev3_eq c)
  · exact Fin.ext (k0_dev4_eq c)
  · exact Fin.ext (k0_dev5_eq c)
  · exact Fin.ext (k0_dev6_eq c)
  · exact Fin.ext (k0_dev7_eq c)
theorem xferDev_eq (c : Dev nD) (k : Fin 7) : xferDev c k = peer c k := by
  fin_cases k
  · exact Fin.ext (k0_dev8_eq c)
  · exact Fin.ext (k0_dev9_eq c)
  · exact Fin.ext (k0_dev10_eq c)
  · exact Fin.ext (k0_dev11_eq c)
  · exact Fin.ext (k0_dev12_eq c)
  · exact Fin.ext (k0_dev13_eq c)
  · exact Fin.ext (k0_dev14_eq c)

/-! ## The contents -/

variable (m : (ℓ : Loc nD τ sig) → Buf (Elt F) ℓ)

/-- A device's staged tokens, routing column and expert weights. -/
def xC (c : Dev nD) : (cc0_stg0_0 : Ref sig .tc).ty.Contents (Elt F) := (win0_0.blk (0 : Fin 1)).view.read (Elt F) (m ((c : Thread nD τ).loc main_arg0))
def riC (c : Dev nD) : (cc0_stg1_0 : Ref sig .tc).ty.Contents (Elt F) := (win0_1.blk (0 : Fin 1)).view.read (Elt F) (m ((c : Thread nD τ).loc main_arg2))
def wC (c : Dev nD) : (cc0_stg2_0 : Ref sig .tc).ty.Contents (Elt F) := (win0_2.blk (0 : Fin 1)).view.read (Elt F) (m ((c : Thread nD τ).loc main_arg3))

/-- Its two tables, -/
def rankC (c : Dev nD) : (cc0_scratch0 : Ref sig .tc).ty.Contents (Elt F) := rankV c (riC m c)
def indC (c : Dev nD) : (cc0_scratch1 : Ref sig .tc).ty.Contents (Elt F) := indV c (riC m c)
/-- the weights of its local expert `j`, -/
def wSl (c : Dev nD) (j : Fin 4) : Vec F S1x512x1024 .f32 := wM.view.readAt (Elt F) (wR j).toLoadRect (wC m c)
/-- its experts' outputs on the dispatched tokens, -/
def yC (c : Dev nD) : FVec F S128x1024 .f32 := yV c (riC m c) (xC m c) (wSl m c)
/-- the chunk it sends the peer at distance `k + 1`, and the chunk it keeps. -/
def chunkC (c : Dev nD) (k : Fin 7) : Vec F S1x128x1024 .bf16 :=
  chunkV (yC m c) (rankM.view.readAt (Elt F) (rowsR c k).toLoadRect (rankC m c)) (indM.view.readAt (Elt F) (rowsR c k).toLoadRect (indC m c))
def ownC (c : Dev nD) : Vec F S1x128x1024 .bf16 :=
  chunkV (yC m c) (rankM.view.readAt (Elt F) (ownR c).toLoadRect (rankC m c)) (indM.view.readAt (Elt F) (ownR c).toLoadRect (indC m c))

/-- What the slots of its send buffer hold once filled (slot 0 is never sent), and those of its receive buffer once all
    has arrived: slot `k + 1` comes from the peer at distance `k + 1` before it. -/
def sendV (c : Dev nD) : Fin 8 → Vec F S1x128x1024 .bf16 := Fin.cases (ownC m c) (chunkC m c)
def recvV (c : Dev nD) : Fin 8 → Vec F S1x128x1024 .bf16 := Fin.cases (ownC m c) (fun k => chunkC m (peer c k.rev) k)

/-- Eight slots as one buffer's contents. -/
def packed (v : Fin 8 → Vec F S1x128x1024 .bf16) : Vec F S8x128x1024 .bf16 :=
  fun i => v (i 0) (fun a => match a with | ⟨0, _⟩ => ⟨0, Nat.one_pos⟩ | ⟨1, _⟩ => i 1 | ⟨2, _⟩ => i 2)

/-- The result block. -/
def outC (c : Dev nD) : (cc0_stg3_0 : Ref sig .tc).ty.Contents (Elt F) := k0_pay34 (packed (recvV m c))

/-! ## The slots -/

omit [FloatOps F] in
theorem slot_emb (s : Fin 8) (z : S1x128x1024.Idx) : (slotR s).emb z = (fun a => match a with | ⟨0, _⟩ => s | ⟨1, _⟩ => z 1 | ⟨2, _⟩ => z 2 : S8x128x1024.Idx) := by
  funext a
  have h0 : (z 0).val = 0 := Nat.lt_one_iff.mp (z 0).isLt
  fin_cases a
  · refine Fin.ext ?_
    show s.val + 1 * (z 0).val = s.val
    omega
  · refine Fin.ext ?_
    show 0 + 1 * (z 1).val = (z 1).val
    omega
  · refine Fin.ext ?_
    show 0 + 1 * (z 2).val = (z 2).val
    omega

omit [FloatOps F] in
theorem packed_emb (v : Fin 8 → Vec F S1x128x1024 .bf16) (s : Fin 8) (z : S1x128x1024.Idx) : packed v ((slotR s).emb z) = v s z := by
  rw [slot_emb]
  show v s _ = v s z
  refine congrArg (v s) (funext fun a => ?_)
  fin_cases a
  · exact Fin.ext (Nat.lt_one_iff.mp (z 0).isLt).symm
  · rfl
  · rfl

/-- The elements of slot `s`. -/
def slotSet (s : Fin 8) : Finset S8x128x1024.Idx := (slotR s).set

theorem sSlot_set (s : Fin 8) : (sSlot s).view.set = slotSet s := by
  show ((View.whole cc0_scratch2).slice (slotR s) |>.reshape _ _).set = _
  rw [View.set_reshape, View.set_slice_whole]; rfl
theorem rSlot_set (s : Fin 8) : (rSlot s).view.set = slotSet s := by
  show ((View.whole cc0_scratch3).slice (slotR s) |>.reshape _ _).set = _
  rw [View.set_reshape, View.set_slice_whole]; rfl

theorem slots_disjoint (s s' : Fin 8) (h : s ≠ s') : Disjoint (slotSet s) (slotSet s') :=
  Ring.lead_disjoint (s := S8x128x1024) (NB := 8) (R := 1) (a₀ := 0) (fun s : Fin 8 => ![s.val, 0, 0]) S1x128x1024.size slot_inb
    (fun b => (Nat.one_mul _).symm) rfl s s' h
theorem slots_cover : Finset.univ.biUnion slotSet = Finset.univ :=
  Ring.lead_cover (s := S8x128x1024) (NB := 8) (R := 1) (a₀ := 0) (fun s : Fin 8 => ![s.val, 0, 0]) S1x128x1024.size slot_inb
    (fun b => (Nat.one_mul _).symm) (fun b a ha => by fin_cases a <;> first | exact absurd rfl ha | rfl) rfl (fun a ha => by fin_cases a <;> first | exact absurd rfl ha | rfl) rfl

omit [FloatOps F] in
theorem mem_slot {s : Fin 8} {i : S8x128x1024.Idx} (h : i ∈ slotSet s) : ∃ z, (slotR s).emb z = i := by
  unfold slotSet at h
  rw [← Rect.map_emb_univ] at h
  obtain ⟨z, -, hz⟩ := Finset.mem_map.mp h
  exact ⟨z, hz⟩

omit [FloatOps F] in
/-- A chunk stored into a slot of the send buffer; -/
theorem stored_send (v : Fin 8 → Vec F S1x128x1024 .bf16) (s : Fin 8) (f : (cc0_scratch2 : Ref sig .tc).ty.Contents (Elt F)) :
    ∀ i ∈ slotSet s, ((sM.access (slotR s) : View sig .tc _ _ _).write (Elt F) f (v s) Finset.univ) i = packed v i := by
  intro i hi
  obtain ⟨z, rfl⟩ := mem_slot hi
  rw [packed_emb]
  exact View.write_emb_of_mem (v := (sM.access (slotR s) : View sig .tc _ _ _)) f (v s) (Finset.mem_univ z)
omit [FloatOps F] in
/-- of the receive buffer. -/
theorem stored_recv (v : Fin 8 → Vec F S1x128x1024 .bf16) (s : Fin 8) (f : (cc0_scratch3 : Ref sig .tc).ty.Contents (Elt F)) :
    ∀ i ∈ slotSet s, ((rM.access (slotR s) : View sig .tc _ _ _).write (Elt F) f (v s) Finset.univ) i = packed v i := by
  intro i hi
  obtain ⟨z, rfl⟩ := mem_slot hi
  rw [packed_emb]
  exact View.write_emb_of_mem (v := (rM.access (slotR s) : View sig .tc _ _ _)) f (v s) (Finset.mem_univ z)

omit [FloatOps F] in
/-- A slot copied into the same slot of a receive buffer. -/
theorem copied (v v' : Fin 8 → Vec F S1x128x1024 .bf16) (s : Fin 8) (h : v s = v' s) (f : (cc0_scratch3 : Ref sig .tc).ty.Contents (Elt F)) :
    ∀ i ∈ slotSet s, ((rSlot s).view.write (Elt F) f ((sSlot s).view.read (Elt F) (packed v : (cc0_scratch2 : Ref sig .tc).ty.Contents (Elt F))) Finset.univ) i = packed v' i := by
  intro i hi
  rw [← rSlot_set] at hi
  obtain ⟨y, -, rfl⟩ := Finset.mem_map.mp hi
  rw [View.write_emb_of_mem _ _ (Finset.mem_univ y)]
  show packed v ((slotR s).emb (Shape.reshapeEquiv _ y)) = packed v' ((slotR s).emb (Shape.reshapeEquiv _ y))
  rw [packed_emb, packed_emb, h]

end Cert.MoE

end
-- ==== Proof.Protocol.lean ====
/-
# The protocol between the devices

Each device has fifteen cells that others wait on or raise: its barrier semaphore, and for each distance `k + 1` the send
and the receive semaphore of slot `k + 1`. One round each:

* the barrier cell of `c` has seven duties of one unit; duty `k` is paid by the peer at distance `k + 1` when it enters,
  and hands `c` the slot `k + 1` of that peer's receive buffer, which is the slot `c` will write;
* the receive cell of slot `k + 1` has one duty, paid by the arriving transfer, and hands the slot holding the chunk;
* the send cell of slot `k + 1` has one duty, paid by the departing transfer, and hands the slot of the send buffer back.
-/
module

public import proofs.«01_k».proof.Proof.Values

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit

variable {F : FTy → Type} [FloatOps F]

/-! ## The resource algebra -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

abbrev barCell (c : Dev nD) : GSem nD τ sig := ((c : Thread nD τ), .reg barS)
abbrev sendCell (c : Dev nD) (k : Fin 7) : GSem nD τ sig := ((c : Thread nD τ), .dma (sSem k.succ))
abbrev recvCell (c : Dev nD) (k : Fin 7) : GSem nD τ sig := ((c : Thread nD τ), .dma (rSem k.succ))

/-- What a semaphore is for. -/
inductive Role where
  | bar
  | send (k : Fin 7)
  | recv (k : Fin 7)
  | other
deriving DecidableEq

def role : SemLoc sig → Role
  | .reg q => if q = barS then .bar else .other
  | .dma q => if h : 13 ≤ q.val ∧ q.val < 20 then .recv ⟨q.val - 13, by omega⟩
    else if h : 5 ≤ q.val ∧ q.val < 12 then .send ⟨q.val - 5, by omega⟩ else .other

theorem role_bar : role (.reg barS) = .bar := by decide
theorem role_send (k : Fin 7) : role (.dma (sSem k.succ)) = .send k := by revert k; decide
theorem role_recv (k : Fin 7) : role (.dma (rSem k.succ)) = .recv k := by revert k; decide

/-- The credit of a slot's transfer. -/
abbrev N : ℕ := (rSlot 0).view.dmaCredit
theorem N_pos : 0 < N := View.dmaCredit_pos _ (by decide)

/-! ## The slots, held -/

def sPts (c : Dev nD) (s : Fin 8) (f : Buf (Elt F) ((c : Thread nD τ).loc cc0_scratch2)) : sProp 𝕄 :=
  (sSlot s).view.loc (c : Thread nD τ) ↦[(sSlot s).view.set]{fullShare} f
def rPts (c : Dev nD) (s : Fin 8) (f : Buf (Elt F) ((c : Thread nD τ).loc cc0_scratch3)) : sProp 𝕄 :=
  (rSlot s).view.loc (c : Thread nD τ) ↦[(rSlot s).view.set]{fullShare} f

omit [FloatOps F] in
instance sPts_storable (c : Dev nD) (s : Fin 8) (f) : BI.Storable (upEmb : UEmb _ 𝕄) (sPts (F := F) c s f) := by unfold sPts; infer_instance
omit [FloatOps F] in
instance rPts_storable (c : Dev nD) (s : Fin 8) (f) : BI.Storable (upEmb : UEmb _ 𝕄) (rPts (F := F) c s f) := by unfold rPts; infer_instance

omit [FloatOps F] in
theorem sPts_eq (c : Dev nD) (s : Fin 8) (f) : sPts (F := F) c s f = ((c : Thread nD τ).loc cc0_scratch2 ↦[slotSet s]{fullShare} f : sProp 𝕄) := by
  unfold sPts; rw [sSlot_set]
omit [FloatOps F] in
theorem rPts_eq (c : Dev nD) (s : Fin 8) (f) : rPts (F := F) c s f = ((c : Thread nD τ).loc cc0_scratch3 ↦[slotSet s]{fullShare} f : sProp 𝕄) := by
  unfold rPts; rw [rSlot_set]

/-! ## The schedule -/

/-- What the barrier duty `k` of `c` hands over, and what an arrival and a departure do. -/
def barPay (c : Dev nD) (k : Fin 7) : sProp 𝕄 := iprop(∃ f, rPts (peer c k) k.succ f)
def recvPay (c : Dev nD) (k : Fin 7) : sProp 𝕄 := rPts c k.succ (packed (recvV m c))
def sendPay (c : Dev nD) (k : Fin 7) : sProp 𝕄 := iprop(∃ f, sPts (F := F) c k.succ f)

def sched : Rounds.Schedule (GSem nD τ sig) (Fin 7) 𝕄 where
  duties g r := if r = 0 ∧ g.1.2 = .tc then (match role g.2 with | .bar => Finset.univ | .send _ => {0} | .recv _ => {0} | .other => ∅) else ∅
  unitless _ := False
  amount g _ _ := if role g.2 = .bar then 1 else N
  payload g _ d := match role g.2 with
    | .bar => barPay g.1.1 d
    | .send k => sendPay g.1.1 k
    | .recv k => recvPay m g.1.1 k
    | .other => iprop(emp)
  amount_pos g _ _ _ := by
    by_cases h : role g.2 = .bar
    · rw [if_pos h]; exact Nat.one_pos
    · rw [if_neg h]; exact N_pos

instance sched_payload_storable (g : GSem nD τ sig) (r : ℕ) (d : Fin 7) :
    BI.Storable (upEmb : UEmb _ 𝕄) ((sched m).payload g r d) := by
  show BI.Storable upEmb (match role g.2 with
    | .bar => barPay g.1.1 d | .send k => sendPay g.1.1 k | .recv k => recvPay m g.1.1 k | .other => iprop(emp))
  unfold barPay recvPay sendPay
  split <;> infer_instance

section Sched
variable (c : Dev nD) (k : Fin 7)

theorem duties_bar : (sched m).duties (barCell c) 0 = Finset.univ := by
  dsimp only [sched]; rw [if_pos ⟨rfl, rfl⟩, role_bar]
theorem duties_send : (sched m).duties (sendCell c k) 0 = {0} := by
  dsimp only [sched]; rw [if_pos ⟨rfl, rfl⟩, role_send]
theorem duties_recv : (sched m).duties (recvCell c k) 0 = {0} := by
  dsimp only [sched]; rw [if_pos ⟨rfl, rfl⟩, role_recv]
theorem duties_later (g : GSem nD τ sig) : ∀ r, 1 ≤ r → (sched m).duties g r = ∅ :=
  fun r hr => by dsimp only [sched]; rw [if_neg fun h => by omega]

theorem amount_bar (d : Fin 7) : (sched m).amount (barCell c) 0 d = 1 := by dsimp only [sched]; exact if_pos role_bar
theorem amount_send (d : Fin 7) : (sched m).amount (sendCell c k) 0 d = N := by
  dsimp only [sched]; rw [role_send]; rfl
theorem amount_recv (d : Fin 7) : (sched m).amount (recvCell c k) 0 d = N := by
  dsimp only [sched]; rw [role_recv]; rfl

theorem expect_bar : (sched m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (sched m).expect (sendCell c k) 0 = N := by
  unfold Schedule.expect Schedule.amountOf; rw [duties_send, Finset.sum_singleton, amount_send]
theorem expect_recv : (sched m).expect (recvCell c k) 0 = N := by
  unfold Schedule.expect Schedule.amountOf; rw [duties_recv, Finset.sum_singleton, amount_recv]

theorem payload_bar (d : Fin 7) : (sched m).payload (barCell c) 0 d = barPay c d := by
  dsimp only [sched]; rw [role_bar]
theorem payload_send (d : Fin 7) : (sched m).payload (sendCell c k) 0 d = sendPay c k := by
  dsimp only [sched]; rw [role_send]
theorem payload_recv (d : Fin 7) : (sched m).payload (recvCell c k) 0 d = recvPay m c k := by
  dsimp only [sched]; rw [role_recv]

theorem rest_bar : bigSep ((sched m).duties (barCell c) 0 \ ∅) (fun d => (sched m).payload (barCell c) 0 d) = bigSep Finset.univ (barPay c) := by
  rw [Finset.sdiff_empty, duties_bar]; exact bigSep_congr fun d _ => payload_bar m c d
theorem rest_send : bigSep ((sched m).duties (sendCell c k) 0 \ ∅) (fun d => (sched m).payload (sendCell c k) 0 d) = sendPay c k := by
  rw [Finset.sdiff_empty, duties_send, bigSep_singleton, payload_send]
theorem rest_recv : bigSep ((sched m).duties (recvCell c k) 0 \ ∅) (fun d => (sched m).payload (recvCell c k) 0 d) = recvPay m c k := by
  rw [Finset.sdiff_empty, duties_recv, bigSep_singleton, payload_recv]

end Sched

/-! ## What each device owes at launch; the levels -/

/-- The receive cells `c` is to raise, from distance `k + 1` on; -/
def owedRecv (c : Dev nD) (k : ℕ) : CellTallies nD τ sig Unit := ∑ j ∈ finFrom 7 k, tallyAt (recvCell (peer c j) j) () N
/-- and the barrier cells. -/
def owedBar (c : Dev nD) (k : ℕ) : CellTallies nD τ sig Unit := ∑ j ∈ finFrom 7 k, tallyAt (barCell (peer c j)) () 1
def O₀ (c : Dev nD) : CellTallies nD τ sig Unit := owedRecv c 0 + owedBar c 0

def L (g : GSem nD τ sig) : Finset Unit := if g.1.2 = .tc then {()} else ∅
/-- Barrier cells at level 1, receive cells at 2, everything else (staging, send) at 0. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [role_bar]
theorem lv_recv (c : Dev nD) (k : Fin 7) (u : Unit) : lv (recvCell c k) u = 2 := by dsimp only [lv]; rw [role_recv]

theorem owedRecv_pos {c : Dev nD} {k : ℕ} {g : GSem nD τ sig} {u : Unit} (h : 0 < owedRecv c k g u) : ∃ j, g = recvCell (peer c j) j := by
  obtain ⟨j, -, hj, -⟩ := sum_tallyAt_apply_pos h
  exact ⟨j, hj⟩
theorem O₀_pos {c : Dev nD} {g : GSem nD τ sig} {u : Unit} (h : 0 < O₀ c g u) :
    (∃ j, g = recvCell (peer c j) j) ∨ ∃ j, g = barCell (peer c j) := by
  unfold O₀ at h
  rw [Pi.add_apply, Finsupp.add_apply] at h
  rcases Nat.add_pos_iff_pos_or_pos.mp h with h | h
  · exact .inl (owedRecv_pos h)
  · obtain ⟨j, -, hj, -⟩ := sum_tallyAt_apply_pos h
    exact .inr ⟨j, hj⟩

omit [FloatOps F] in
/-- A wait on a cell at level 0 is admissible whatever `c` owes of the launch. -/
theorem mayWait_stage (c : Dev nD) (sm : SemLoc sig) (hq : ∀ c : Dev nD, lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; exact (hq c).le)
      (fun g u hg => by
        rcases O₀_pos hg with ⟨j, rfl⟩ | ⟨j, rfl⟩
        · rw [lv_recv]; decide
        · rw [lv_bar]; decide)
  · rw [MayWait_zero]; iintro -; iempintro

omit [FloatOps F] in
/-- At its barrier wait a device owes receive cells only, which are above its barrier cell. -/
theorem mayWait_bar (c : Dev nD) : (levAts L lv : sProp 𝕄) ⊢ MayWait (c : Thread nD τ) (.reg barS) () (owedRecv c 0) :=
  MayOwe.of_cut (L := L) (lev := lv) 1 (fun p hp => by rw [Finset.mem_singleton.mp hp, L_tc]; exact Finset.mem_singleton_self _)
    (fun g u hg => by obtain ⟨j, rfl⟩ := owedRecv_pos hg; exact Finset.mem_singleton_self _)
    (fun p hp => by rw [Finset.mem_singleton.mp hp]; exact (lv_bar c ()).le)
    (fun g u hg => by obtain ⟨j, rfl⟩ := owedRecv_pos hg; rw [lv_recv]; decide)

/-! ## The cells' records, and the tokens a device pays with -/

/-- A device's cells: its barrier cell, its send cells, its receive cells. -/
abbrev CIx : Type := Unit ⊕ (Fin 7 ⊕ Fin 7)
def csem : CIx → SemLoc sig
  | .inl _ => .reg barS
  | .inr (.inl k) => .dma (sSem k.succ)
  | .inr (.inr k) => .dma (rSem k.succ)
def kcell (ck : Dev nD × CIx) : GSem nD τ sig := ((ck.1 : Thread nD τ), csem ck.2)

/-- Every cell's invariant, under the names `K`, and that every cell is at round 0. -/
def records (K : Dev nD × CIx → ℕ) : sProp 𝕄 :=
  iprop((bigSep Finset.univ fun ck : Dev nD × CIx => cellInv ER (sched m) (K ck) (kcell ck))
    ∗ bigSep Finset.univ fun ck : Dev nD × CIx => reached ER (kcell ck) 0)

instance records_persistent (K : Dev nD × CIx → ℕ) : BI.Persistent (records m K) := by unfold records; infer_instance

theorem inv_at (K : Dev nD × CIx → ℕ) (ck : Dev nD × CIx) : records m K ⊢ cellInv ER (sched m) (K ck) (kcell ck) := by
  unfold records; iintro ⟨H, -⟩; iapply (bigSep_univ_elim (fun ck : Dev nD × CIx => cellInv ER (sched m) (K ck) (kcell ck)) ck); iexact H
theorem reached_at (K : Dev nD × CIx → ℕ) (ck : Dev nD × CIx) : records m K ⊢ reached ER (kcell ck) 0 := by
  unfold records; iintro ⟨-, H⟩; iapply (bigSep_univ_elim (fun ck : Dev nD × CIx => (reached ER (kcell ck) 0 : sProp 𝕄)) ck); iexact H

theorem inv_bar (K : Dev nD × CIx → ℕ) (c : Dev nD) : records m K ⊢ cellInv ER (sched m) (K (c, .inl ())) (barCell c) := inv_at m K (c, .inl ())
theorem inv_send (K : Dev nD × CIx → ℕ) (c : Dev nD) (k : Fin 7) : records m K ⊢ cellInv ER (sched m) (K (c, .inr (.inl k))) (sendCell c k) :=
  inv_at m K (c, .inr (.inl k))
theorem inv_recv (K : Dev nD × CIx → ℕ) (c : Dev nD) (k : Fin 7) : records m K ⊢ cellInv ER (sched m) (K (c, .inr (.inr k))) (recvCell c k) :=
  inv_at m K (c, .inr (.inr k))
theorem reached_bar (K : Dev nD × CIx → ℕ) (c : Dev nD) : records m K ⊢ reached ER (barCell c) 0 := reached_at m K (c, .inl ())
theorem reached_send (K : Dev nD × CIx → ℕ) (c : Dev nD) (k : Fin 7) : records m K ⊢ reached ER (sendCell c k) 0 := reached_at m K (c, .inr (.inl k))
theorem reached_recv (K : Dev nD × CIx → ℕ) (c : Dev nD) (k : Fin 7) : records m K ⊢ reached ER (recvCell c k) 0 := reached_at m K (c, .inr (.inr k))

omit [FloatOps F] in
/-- The eight members of a family over the slots: slot 0, and slot `k + 1` for each distance. -/
theorem bigSep_slots (Φ : Fin 8 → sProp 𝕄) : bigSep Finset.univ Φ = iprop(Φ 0 ∗ bigSep Finset.univ fun k : Fin 7 => Φ k.succ) := by
  rw [Fin.univ_succ, Finset.cons_eq_insert, bigSep_insert (by simp), bigSep_map]; rfl

/-- The tokens of the duties `c` pays: its peers' barrier duties, its own send duties, its peers' receive duties. -/
def payBar (c : Dev nD) (k : Fin 7) : sProp 𝕄 := dutyTok ER (barCell (peer c k)) 0 k.rev
def paySend (c : Dev nD) (k : Fin 7) : sProp 𝕄 := dutyTok ER (sendCell c k) 0 0
def payRecv (c : Dev nD) (k : Fin 7) : sProp 𝕄 := dutyTok ER (recvCell (peer c k) k) 0 0

/-- A device's positions at its cells, and those tokens. -/
def linear (c : Dev nD) : sProp 𝕄 :=
  iprop((atPos ER (barCell c) 0 ∅ 0 ∗ (bigSep Finset.univ fun k => atPos ER (sendCell c k) 0 ∅ 0) ∗ bigSep Finset.univ fun k => atPos ER (recvCell c k) 0 ∅ 0)
    ∗ (bigSep Finset.univ (payBar c)) ∗ (bigSep Finset.univ (paySend c)) ∗ bigSep Finset.univ (payRecv c))

end Cert.MoE

end
-- ==== Proof.Loops.lean ====
/-
# The loops of the body

One lemma per loop body, each keeping the loop's invariant: the seven signals, the seven chunks computed and sent, the
seven arrivals, the seven departures.
-/
module

public import proofs.«01_k».proof.Proof.Protocol

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit

variable {F : FTy → Type} [FloatOps F]

local notation "𝕄" => MT nD τ sig Unit (Elt F) ℕ UU ℕ

abbrev 𝒱₀ : Variants := Variants.none

/-- The weakest precondition of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program at the head of a sequence, by what it makes of its precondition. -/
theorem wp_stage {c : Dev nD} {α β : Type} {P : sProp 𝕄} {Q : α → sProp 𝕄} {p : Prog (TpuEff nD τ sig (Elt F) Λ₀ .tc) α}
    {k : α → Prog (TpuEff nD τ sig (Elt F) Λ₀ .tc) β} {Ψ : β → sProp 𝕄} (h : P ⊢ WP c p Q) :
    P ⊢ iprop((∀ a, Q a -∗ WP c (k a) Ψ) -∗ WP c (p >>= k) Ψ) := by
  unfold WP at h ⊢
  rw [wp_bind]
  iintro HP Hk
  ihave H := h $$ HP
  iapply (wp_wand frame _ _) $$ H
  iexact Hk

/-- A loop of seven passes, by its invariant. -/
theorem wp_seq7 {c : Dev nD} {f : Fin 7 → Prog (TpuEff nD τ sig (Elt F) Λ₀ .tc) PUnit} {I : ℕ → sProp 𝕄}
    (h : ∀ k : Fin 7, I k.val ⊢ WP c (f k) (fun _ => I (k.val + 1))) : I 0 ⊢ WP c (seq7 f) (fun _ => I 7) := by
  unfold seq7 WP
  simp only [wp_bind]
  exact (h 0).trans (wp_mono _ _ _ fun _ => (h 1).trans (wp_mono _ _ _ fun _ => (h 2).trans (wp_mono _ _ _ fun _ =>
    (h 3).trans (wp_mono _ _ _ fun _ => (h 4).trans (wp_mono _ _ _ fun _ => (h 5).trans (wp_mono _ _ _ fun _ => h 6))))))

variable (m : (ℓ : Loc nD τ sig) → Buf (Elt F) ℓ) (K : Dev nD × CIx → ℕ)

/-- A device's debt, whatever waits it has recorded. -/
def owesSome (c : Dev nD) (O : CellTallies nD τ sig Unit) : sProp 𝕄 := iprop(∃ W, owes (c : Thread nD τ) O W)

/-! ## The signals -/

/-- Before signal `k`: the signals from `k` on are owed, with the tokens they pay with and the slots they hand over. -/
def sigI (c : Dev nD) (k : ℕ) : sProp 𝕄 :=
  iprop(records m K ∗ owesSome c (owedRecv c 0 + owedBar c k) ∗ (bigSep (finFrom 7 k) (payBar c))
    ∗ bigSep (finFrom 7 k) fun j => iprop(∃ f, rPts (F := F) c j.rev.succ f))

theorem sig_step (c : Dev nD) (k : Fin 7) : sigI m K c k.val ⊢ WP c (sigStep c k) (fun _ => sigI m K c (k.val + 1)) := by
  unfold sigI owesSome sigStep semSignalWord owedBar
  rw [sigDev_eq, add_sum_finFrom_succ _ k.isLt, bigSep_finFrom_succ k.isLt, bigSep_finFrom_succ k.isLt]
  iintro ⟨#HR, ⟨%W, HO⟩, ⟨Htok, Htoks⟩, ⟨%f, Hs⟩, Hss⟩
  unfold payBar
  iapply (Rounds.wp_signal 𝒱₀ ER (sched m) (c : Thread nD τ) none (dst := (peer c k : Thread nD τ)) (κ := K (peer c k, .inl ()))
      (d := k.rev) (by rw [duties_bar]; exact Finset.mem_univ _) ((amount_bar m (peer c k) k.rev).trans (by decide)) () _ rfl)
    $$ [HO Htok Hs]
  · isplitr; · iapply (inv_bar m K (peer c k)); iexact HR
    isplitl [HO]; · iexact HO
    isplitl [Htok]; · iexact Htok
    isplitl [Hs]
    · rw [payload_bar]; unfold barPay; rw [peer_rev]; iexists f; iexact Hs
    · iapply (reached_bar m K (peer c k)); iexact HR
  iintro HO
  rw [wp_ret]; imodintro
  isplitr; · iexact HR
  isplitl [HO]; · iexists W; iexact HO
  isplitl [Htoks]; · iexact Htoks
  iexact Hss

/-! ## The chunks, computed and sent -/

/-- The two tables. -/
def tables (c : Dev nD) : sProp 𝕄 :=
  iprop(((c : Thread nD τ).loc cc0_scratch0 ↦{fullShare} rankC m c) ∗ ((c : Thread nD τ).loc cc0_scratch1 ↦{fullShare} indC m c))

/-- Before chunk `k`: the transfers from `k` on are owed, with their tokens, the slots they leave and the peers' slots they
    write; the transfers before `k` have left the credit of their departure. -/
def xferI (c : Dev nD) (k : ℕ) : sProp 𝕄 :=
  iprop(records m K ∗ tables m c ∗ owesSome c (owedRecv c k) ∗ (bigSep (finFrom 7 k) (paySend c)) ∗ (bigSep (finFrom 7 k) (payRecv c))
    ∗ (bigSep (finFrom 7 k) fun j => iprop(∃ f, sPts (F := F) c j.succ f)) ∗ (bigSep (finFrom 7 k) (barPay c))
    ∗ bigSep (finUpTo 7 k) fun j => cred (tallyAt (sendCell c j) () N))

omit [FloatOps F] in
theorem access_send (s : Fin 8) : (sM.access (slotR s) : View sig .tc _ _ _).set ⊆ slotSet s := subset_of_eq (View.set_slice_whole _ _)
omit [FloatOps F] in
theorem access_recv (s : Fin 8) : (rM.access (slotR s) : View sig .tc _ _ _).set ⊆ slotSet s := subset_of_eq (View.set_slice_whole _ _)

/-- The chunk computed and stored. -/
theorem fill_step (c : Dev nD) (k : Fin 7) :
    iprop(tables m c ∗ ∃ f, sPts (F := F) c k.succ f)
      ⊢ WP c (fillStep c (yC m c) k) (fun _ => iprop(tables m c ∗ sPts (F := F) c k.succ (packed (sendV m c)))) := by
  unfold fillStep tables sPts
  simp only [Prog.lift, Prog.bind_op, Prog.bind_ret, Prog.pure_eq_ret]
  iintro ⟨⟨Hr, Hi⟩, ⟨%f, Hs⟩⟩
  iapply (wp_load 𝒱₀ (c : Thread nD τ) none Set.univ (m := rankM) (Finset.subset_univ _)) $$ Hr; iintro Hr
  iapply (wp_load 𝒱₀ (c : Thread nD τ) none Set.univ (m := indM) (Finset.subset_univ _)) $$ Hi; iintro Hi
  rw [sSlot_set]
  iapply (wp_load_rect 𝒱₀ (c : Thread nD τ) none Set.univ (m := sM) (r := slotR k.succ) (access_send k.succ)) $$ Hs; iintro Hs
  iapply (wp_store 𝒱₀ (c : Thread nD τ) none Set.univ (m := sM) (r := slotR k.succ) (Mk := Finset.univ) (access_send k.succ)) $$ Hs; iintro Hs
  rw [wp_ret]; imodintro
  isplitl [Hr Hi]; · isplitl [Hr] <;> iassumption
  iapply (Entails.of_eq (pointsTo_congr (stored_send (sendV m c) k.succ f)))
  iexact Hs

omit [FloatOps F] in
theorem slot_amount (k : Fin 7) : (rSlot k.succ).view.amount (.dma (rSem k.succ)) = N := by
  rw [View.amount_dma]

/-- The slot left is the departure's payload; the slot written, the arrival's. -/
theorem departed (c : Dev nD) (k : Fin 7) :
    (((sSlot k.succ).view.loc (c : Thread nD τ)) ↦[(sSlot k.succ).view.set]{fullShare} packed (sendV m c) : sProp 𝕄)
      ⊢ (sched m).payload (sendCell c k) 0 0 := by
  rw [payload_send]; unfold sendPay sPts; iintro H; iexists _; iexact H
theorem arrived (c : Dev nD) (k : Fin 7) (fd : Buf (Elt F) ((peer c k : Thread nD τ).loc cc0_scratch3)) :
    ((rSlot k.succ).view.loc (peer c k : Thread nD τ) ↦[(rSlot k.succ).view.set]{fullShare}
        ((rSlot k.succ).view.write (Elt F) fd ((sSlot k.succ).view.read (Elt F) (packed (sendV m c) : (cc0_scratch2 : Ref sig .tc).ty.Contents (Elt F))) Finset.univ) : sProp 𝕄)
      ⊢ (sched m).payload (recvCell (peer c k) k) 0 0 := by
  rw [payload_recv]; unfold recvPay; rw [rPts_eq, rSlot_set]
  refine Entails.of_eq (pointsTo_congr (copied (sendV m c) (recvV m (peer c k)) k.succ ?_ fd))
  show chunkC m c k = chunkC m (peer (peer c k) k.rev) k
  rw [peer_rev]

/-- The transfer of chunk `k`, to a device `n` known to be the peer at distance `k + 1`. -/
theorem send_rule (c n : Dev nD) (k : Fin 7) (hn : n = peer c k) (O : CellTallies nD τ sig Unit)
    {hsc : (rSlot k.succ : Memref sig (Dev.tc n : Thread nD τ).2.kind .vmem S128x1024 .bf16).view.ref.isScScratch = false}
    {hsrc : (sSlot k.succ).view.WordExact} {hdst : (rSlot k.succ).view.WordExact}
    {hsem : DmaTarget.Typed .vmem (.dma (rSem k.succ))
      (.remote (Dev.tc n : Thread nD τ) (rSlot k.succ : Memref sig .tc .vmem S128x1024 .bf16) (.dma (sSem k.succ)) hsc)} :
    iprop(records m K ∗ sPts (F := F) c k.succ (packed (sendV m c)) ∗ barPay c k ∗ owesSome c (O + tallyAt (recvCell (peer c k) k) () N)
        ∗ paySend c k ∗ payRecv c k)
      ⊢ WP c (.op (.enqueueDma (sSlot k.succ) (.remote (Dev.tc n : Thread nD τ) (rSlot k.succ) (.dma (sSem k.succ)) hsc) (.dma (rSem k.succ)) hsrc hdst hsem) .ret)
          (fun _ => iprop(cred (tallyAt (sendCell c k) () N) ∗ owesSome (F := F) c O)) := by
  subst hn
  unfold owesSome barPay paySend payRecv
  iintro ⟨#HR, Hs, ⟨%fd, Hd⟩, ⟨%W, HO⟩, Ht, Hv⟩
  unfold sPts rPts
  iapply (Rounds.wp_send_pointsTo 𝒱₀ ER (sched m) (c : Thread nD τ) none (κ₁ := K (c, .inr (.inl k))) (κ₂ := K (peer c k, .inr (.inr k)))
      (r₁ := 0) (r₂ := 0) (d₁ := 0) (d₂ := 0) (fs := packed (sendV m c)) (fd := fd)
      (by rw [duties_send]; exact Finset.mem_singleton_self _) (by rw [duties_recv]; exact Finset.mem_singleton_self _)
      () () N (slot_amount k) (amount_send m c k 0) (amount_recv m (peer c k) k 0) O rfl (W := W)
      (by exact departed m c k) (by exact arrived m c k fd))
    $$ [Hs Hd HO Ht Hv]
  · isplitr; · iapply (inv_send m K c k); iexact HR
    isplitr; · iapply (inv_recv m K (peer c k) k); iexact HR
    isplitl [Hs]; · iexact Hs
    isplitl [Hd]; · iexact Hd
    isplitl [HO]; · iexact HO
    isplitl [Ht]; · iexact Ht
    isplitr; · iapply (reached_send m K c k); iexact HR
    isplitl [Hv]; · iexact Hv
    iapply (reached_recv m K (peer c k) k); iexact HR
  iintro ⟨HC, HO⟩
  rw [wp_ret]; imodintro
  isplitl [HC]; · iexact HC
  iexists W; iexact HO

theorem send_step (c : Dev nD) (k : Fin 7) (O : CellTallies nD τ sig Unit) :
    iprop(records m K ∗ sPts (F := F) c k.succ (packed (sendV m c)) ∗ barPay c k ∗ owesSome c (O + tallyAt (recvCell (peer c k) k) () N)
        ∗ paySend c k ∗ payRecv c k)
      ⊢ WP c (sendStep c k) (fun _ => iprop(cred (tallyAt (sendCell c k) () N) ∗ owesSome (F := F) c O)) :=
  send_rule m K c (xferDev c k) k (xferDev_eq c k) O

theorem xfer_step (c : Dev nD) (k : Fin 7) :
    xferI m K c k.val ⊢ WP c (do fillStep c (yC m c) k; sendStep c k) (fun _ => xferI m K c (k.val + 1)) := by
  unfold xferI owedRecv
  rw [sum_finFrom_succ k.isLt]
  simp only [bigSep_finFrom_succ k.isLt, bigSep_finUpTo_succ k.isLt]
  iintro ⟨#HR, HT, HO, ⟨Ht, Hts⟩, ⟨Hv, Hvs⟩, ⟨Hs, Hss⟩, ⟨Hb, Hbs⟩, Hcs⟩
  iapply (wp_stage (fill_step m c k)) $$ [HT Hs]
  · isplitl [HT] <;> iassumption
  iintro %_ ⟨HT, Hs⟩
  ihave H := (send_step m K c k (∑ j ∈ finFrom 7 (k.val + 1), tallyAt (recvCell (peer c j) j) () N)) $$ [Hs Hb HO Ht Hv]
  · isplitr; · iexact HR
    isplitl [Hs]; · iexact Hs
    isplitl [Hb]; · iexact Hb
    isplitl [HO]; · iexact HO
    isplitl [Ht] <;> iassumption
  iapply (wp_wand frame _ _) $$ H
  iintro %_ ⟨HC, HO⟩
  isplitr; · iexact HR
  isplitl [HT]; · iexact HT
  isplitl [HO]; · iexact HO
  isplitl [Hts]; · iexact Hts
  isplitl [Hvs]; · iexact Hvs
  isplitl [Hss]; · iexact Hss
  isplitl [Hbs]; · iexact Hbs
  isplitl [HC] <;> iassumption

/-! ## The arrivals and the departures -/

/-- Before wait `k` for an arrival: the cells from `k` on at round 0, with the credit of their arrivals; the slots before
    `k` hold the chunks. -/
def recvI (c : Dev nD) (k : ℕ) : sProp 𝕄 :=
  iprop(records m K ∗ owesSome c 0 ∗ (bigSep (finFrom 7 k) fun j => atPos ER (recvCell c j) 0 ∅ 0)
    ∗ (bigSep (finFrom 7 k) fun j => cred (tallyAt (recvCell c j) () N))
    ∗ (bigSep (finUpTo 7 k) (recvPay m c)) ∗ bigSep (finUpTo 7 k) fun j => atPos ER (recvCell c j) 1 ∅ 0)

theorem recv_step (c : Dev nD) (k : Fin 7) : recvI m K c k.val ⊢ WP c (recvStep k) (fun _ => recvI m K c (k.val + 1)) := by
  unfold recvI owesSome recvStep Prog.lift
  simp only [bigSep_finFrom_succ k.isLt, bigSep_finUpTo_succ k.isLt]
  iintro ⟨#HR, ⟨%W, HO⟩, ⟨Hat, Hats⟩, ⟨Hc, Hcs⟩, Hps, Hds⟩
  iapply (Rounds.wp_wait_rest_token 𝒱₀ ER (sched m) (c : Thread nD τ) none (κ := K (c, .inr (.inr k)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_recv m K c k); iexact HR
    isplitl [Hc]; · iexact Hc
    isplitl [HO]; · iexact HO
    isplitr; · rw [MayWait_zero]; iempintro
    iexact Hat
  iintro ⟨HO, Hat, -, Hp⟩
  rw [wp_ret]; imodintro
  isplitr; · iexact HR
  isplitl [HO]; · iexists _; iexact HO
  isplitl [Hats]; · iexact Hats
  isplitl [Hcs]; · iexact Hcs
  isplitl [Hp Hps]
  · isplitl [Hp]
    · iapply (Entails.of_eq (rest_recv m c k)); iexact Hp
    · iexact Hps
  isplitl [Hat]; · iexact Hat
  iexact Hds

/-- Before wait `k` for a departure, likewise. -/
def doneI (c : Dev nD) (k : ℕ) : sProp 𝕄 :=
  iprop(records m K ∗ owesSome c 0 ∗ (bigSep (finFrom 7 k) fun j => atPos ER (sendCell c j) 0 ∅ 0)
    ∗ (bigSep (finFrom 7 k) fun j => cred (tallyAt (sendCell c j) () N))
    ∗ (bigSep (finUpTo 7 k) (sendPay c)) ∗ bigSep (finUpTo 7 k) fun j => atPos ER (sendCell c j) 1 ∅ 0)

theorem done_step (c : Dev nD) (k : Fin 7) : doneI m K c k.val ⊢ WP c (doneStep k) (fun _ => doneI m K c (k.val + 1)) := by
  unfold doneI owesSome doneStep Prog.lift
  simp only [bigSep_finFrom_succ k.isLt, bigSep_finUpTo_succ k.isLt]
  iintro ⟨#HR, ⟨%W, HO⟩, ⟨Hat, Hats⟩, ⟨Hc, Hcs⟩, Hps, Hds⟩
  iapply (Rounds.wp_wait_rest_token 𝒱₀ ER (sched m) (c : Thread nD τ) none (κ := K (c, .inr (.inl k)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_send m K c k); iexact HR
    isplitl [Hc]; · iexact Hc
    isplitl [HO]; · iexact HO
    isplitr; · rw [MayWait_zero]; iempintro
    iexact Hat
  iintro ⟨HO, Hat, -, Hp⟩
  rw [wp_ret]; imodintro
  isplitr; · iexact HR
  isplitl [HO]; · iexists _; iexact HO
  isplitl [Hats]; · iexact Hats
  isplitl [Hcs]; · iexact Hcs
  isplitl [Hp Hps]
  · isplitl [Hp]
    · iapply (Entails.of_eq (rest_send m c k)); iexact Hp
    · iexact Hps
  isplitl [Hat]; · iexact Hat
  iexact Hds

end Cert.MoE

end
-- ==== Proof.Body.lean ====
/-
# The body, run

What one device's body makes of its staged inputs, its scratch buffers and its share of the protocol.
-/
module

public import proofs.«01_k».proof.Proof.Loops

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (K : Dev nD × CIx → ℕ)

/-! ## The steps between the loops -/

omit [FloatOps F] in
theorem off2 : (![0, 0] : Fin 2 → Nat) = fun _ => 0 := funext fun a => by fin_cases a <;> rfl
omit [FloatOps F] in
theorem off3 : (![0, 0, 0] : Fin 3 → Nat) = fun _ => 0 := funext fun a => by fin_cases a <;> rfl

section Whole
variable (c : Dev nD)
omit [FloatOps F] in
theorem read_ri (f : Buf (Elt F) ((c : Thread nD τ).loc cc0_stg1_0)) : riM.view.readAt (Elt F) riR.toLoadRect f = f :=
  Memref.readAt_unit_zero (Elt F) cc0_stg1_0 off2 _ f
omit [FloatOps F] in
theorem read_x (f : Buf (Elt F) ((c : Thread nD τ).loc cc0_stg0_0)) : xM.view.readAt (Elt F) xR.toLoadRect f = f :=
  Memref.readAt_unit_zero (Elt F) cc0_stg0_0 off2 _ f
omit [FloatOps F] in
theorem read_r (f : Buf (Elt F) ((c : Thread nD τ).loc cc0_scratch3)) : rM.view.readAt (Elt F) bufR.toLoadRect f = f :=
  Memref.readAt_unit_zero (Elt F) cc0_scratch3 off3 _ f
omit [FloatOps F] in
theorem write_rank (f w : Buf (Elt F) ((c : Thread nD τ).loc cc0_scratch0)) :
    (rankM.access tabR).write (Elt F) f w Finset.univ = w :=
  Memref.write_access_unit_zero_univ (Elt F) cc0_scratch0 off2 _ f w
omit [FloatOps F] in
theorem write_ind (f w : Buf (Elt F) ((c : Thread nD τ).loc cc0_scratch1)) :
    (indM.access tabR).write (Elt F) f w Finset.univ = w :=
  Memref.write_access_unit_zero_univ (Elt F) cc0_scratch1 off2 _ f w
omit [FloatOps F] in
theorem write_o (f w : Buf (Elt F) ((c : Thread nD τ).loc cc0_stg3_0)) :
    (oM.access oR).write (Elt F) f w Finset.univ = w :=
  Memref.write_access_unit_zero_univ (Elt F) cc0_stg3_0 off2 _ f w
end Whole

/-- The wait for the seven signals: with them come the slots this device will write. -/
theorem bar_wait (c : Dev nD) :
    iprop(records m K ∗ levAts L lv ∗ cred (tallyAt (barCell c) () 7) ∗ owesSome c (owedRecv c 0) ∗ atPos ER (barCell c) 0 ∅ 0)
      ⊢ WP c (semWaitWord barS 7#32) (fun _ => iprop(owesSome (F := F) c (owedRecv c 0) ∗ atPos ER (barCell c) 1 ∅ 0 ∗ bigSep Finset.univ (barPay c))) := by
  unfold owesSome semWaitWord
  iintro ⟨#HR, #Hlev, Hc, ⟨%W, HO⟩, Hat⟩
  iapply (Rounds.wp_wait_rest_token 𝒱₀ ER (sched m) (c : Thread nD τ) none (κ := K (c, .inl ()))
      (wpE_semWait_eq 𝒱₀ (c : Thread nD τ) none Set.univ) (Set.mem_univ _) () (O := owedRecv c 0) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply (mayWait_bar c); iexact Hlev
    iexact Hat
  iintro ⟨HO, Hat, -, Hp⟩
  rw [wp_ret]; imodintro
  isplitl [HO]; · iexists _; iexact HO
  isplitl [Hat]; · iexact Hat
  iapply (Entails.of_eq (rest_bar m c)); iexact Hp

/-- The staged inputs. -/
def staged (c : Dev nD) : sProp 𝕄 :=
  iprop(((c : Thread nD τ).loc cc0_stg0_0 ↦{fullShare} xC m c) ∗ ((c : Thread nD τ).loc cc0_stg1_0 ↦{fullShare} riC m c)
    ∗ ((c : Thread nD τ).loc cc0_stg2_0 ↦{fullShare} wC m c))

/-- The two tables and the experts' outputs. -/
theorem local_step (c : Dev nD) :
    iprop(staged m c ∗ (∃ f, (c : Thread nD τ).loc cc0_scratch0 ↦{fullShare} f) ∗ (∃ f, (c : Thread nD τ).loc cc0_scratch1 ↦{fullShare} f))
      ⊢ WP c (localStep c) (fun Y => iprop(⌜Y = yC m c⌝ ∗ staged m c ∗ tables m c)) := by
  unfold localStep staged tables
  simp only [Prog.lift, Prog.bind_op, Prog.bind_ret, Prog.pure_eq_ret]
  iintro ⟨⟨Hx, Hr, Hw⟩, ⟨%f0, H0⟩, ⟨%f1, H1⟩⟩
  iapply (wp_load 𝒱₀ (c : Thread nD τ) none Set.univ (m := riM) (Finset.subset_univ _)) $$ Hr; iintro Hr
  rw [read_ri c]
  iapply (wp_load 𝒱₀ (c : Thread nD τ) none Set.univ (m := rankM) (Finset.subset_univ _)) $$ H0; iintro H0
  iapply (wp_store 𝒱₀ (c : Thread nD τ) none Set.univ (m := rankM) (r := tabR) (Mk := Finset.univ) (Finset.subset_univ _)) $$ H0; iintro H0
  rw [write_rank c]
  iapply (wp_load 𝒱₀ (c : Thread nD τ) none Set.univ (m := indM) (Finset.subset_univ _)) $$ H1; iintro H1
  iapply (wp_store 𝒱₀ (c : Thread nD τ) none Set.univ (m := indM) (r := tabR) (Mk := Finset.univ) (Finset.subset_univ _)) $$ H1; iintro H1
  rw [write_ind c]
  iapply (wp_load 𝒱₀ (c : Thread nD τ) none Set.univ (m := xM) (Finset.subset_univ _)) $$ Hx; iintro Hx
  rw [read_x c]
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  rw [wp_ret]; imodintro
  isplitr; · ipureintro; rfl
  isplitl [Hx Hr Hw]
  · isplitl [Hx]; · iexact Hx
    isplitl [Hr] <;> iassumption
  isplitl [H0]; · iexact H0
  iexact H1

/-- The device's own chunk, kept. -/
theorem keep_step (c : Dev nD) :
    iprop(tables m c ∗ ∃ f, rPts (F := F) c 0 f)
      ⊢ WP c (keepStep c (yC m c)) (fun _ => iprop(tables m c ∗ rPts (F := F) c 0 (packed (recvV m c)))) := by
  unfold keepStep tables rPts
  simp only [Prog.lift, Prog.bind_op, Prog.bind_ret, Prog.pure_eq_ret]
  iintro ⟨⟨Hr, Hi⟩, ⟨%f, Hs⟩⟩
  iapply (wp_load 𝒱₀ (c : Thread nD τ) none Set.univ (m := rankM) (Finset.subset_univ _)) $$ Hr; iintro Hr
  iapply (wp_load 𝒱₀ (c : Thread nD τ) none Set.univ (m := indM) (Finset.subset_univ _)) $$ Hi; iintro Hi
  rw [rSlot_set]
  iapply (wp_load_rect 𝒱₀ (c : Thread nD τ) none Set.univ (m := rM) (r := slotR 0) (access_recv 0)) $$ Hs; iintro Hs
  iapply (wp_store 𝒱₀ (c : Thread nD τ) none Set.univ (m := rM) (r := slotR 0) (Mk := Finset.univ) (access_recv 0)) $$ Hs; iintro Hs
  rw [wp_ret]; imodintro
  isplitl [Hr Hi]; · isplitl [Hr] <;> iassumption
  iapply (Entails.of_eq (pointsTo_congr (stored_recv (recvV m c) 0 f)))
  iexact Hs

/-- The slots summed. -/
theorem sum_step (c : Dev nD) :
    iprop(((c : Thread nD τ).loc cc0_scratch3 ↦{fullShare} packed (recvV m c)) ∗ (∃ f, (c : Thread nD τ).loc cc0_stg3_0 ↦{fullShare} f))
      ⊢ WP c sumStep (fun _ => iprop(((c : Thread nD τ).loc cc0_scratch3 ↦{fullShare} packed (recvV m c))
          ∗ ((c : Thread nD τ).loc cc0_stg3_0 ↦{fullShare} outC m c))) := by
  unfold sumStep
  simp only [Prog.lift, Prog.bind_op, Prog.bind_ret, Prog.pure_eq_ret]
  iintro ⟨Hr, ⟨%f, Ho⟩⟩
  iapply (wp_load 𝒱₀ (c : Thread nD τ) none Set.univ (m := rM) (Finset.subset_univ _)) $$ Hr; iintro Hr
  rw [read_r c]
  iapply (wp_load 𝒱₀ (c : Thread nD τ) none Set.univ (m := oM) (Finset.subset_univ _)) $$ Ho; iintro Ho
  iapply (wp_store 𝒱₀ (c : Thread nD τ) none Set.univ (m := oM) (r := oR) (Mk := Finset.univ) (Finset.subset_univ _)) $$ Ho; iintro Ho
  rw [write_o c, wp_ret]; imodintro
  isplitl [Hr]; · iexact Hr
  iexact Ho

/-! ## Buffers as slots, and the cells closed -/

omit [FloatOps F] in
theorem send_slots (c : Dev nD) (f : Buf (Elt F) ((c : Thread nD τ).loc cc0_scratch2)) :
    ((c : Thread nD τ).loc cc0_scratch2 ↦{fullShare} f : sProp 𝕄) = iprop(sPts c 0 f ∗ bigSep Finset.univ fun k : Fin 7 => sPts c k.succ f) := by
  rw [← bigSep_slots (fun s => sPts c s f), Ring.pointsTo_blocks slotSet slots_disjoint slots_cover f]
  exact bigSep_congr fun s _ => (sPts_eq c s f).symm
omit [FloatOps F] in
theorem recv_slots (c : Dev nD) (f : Buf (Elt F) ((c : Thread nD τ).loc cc0_scratch3)) :
    ((c : Thread nD τ).loc cc0_scratch3 ↦{fullShare} f : sProp 𝕄) = iprop(rPts c 0 f ∗ bigSep Finset.univ fun k : Fin 7 => rPts c k.succ f) := by
  rw [← bigSep_slots (fun s => rPts c s f), Ring.pointsTo_blocks slotSet slots_disjoint slots_cover f]
  exact bigSep_congr fun s _ => (rPts_eq c s f).symm

omit [FloatOps F] in
/-- The send buffer's slots, back at some contents each, are the buffer at some contents. -/
theorem send_back (c : Dev nD) : iprop((∃ f, sPts (F := F) c 0 f) ∗ bigSep Finset.univ (sendPay (F := F) c))
    ⊢ (∃ f, (c : Thread nD τ).loc cc0_scratch2 ↦{fullShare} f : sProp 𝕄) := by
  iintro ⟨⟨%f, H0⟩, Hs⟩
  iapply (Ring.pointsTo_blocks_join_exists slotSet slots_disjoint slots_cover f)
  iapply (Entails.of_eq (bigSep_slots fun s => iprop(∃ f, (c : Thread nD τ).loc cc0_scratch2 ↦[slotSet s]{fullShare} f : sProp 𝕄)).symm)
  isplitl [H0]
  · iexists f; rw [← sPts_eq]; iexact H0
  · iapply (Entails.of_eq (bigSep_congr (s := Finset.univ) (Φ := sendPay (F := F) c) fun k _ => by unfold sendPay; simp only [sPts_eq]))
    iexact Hs

omit [FloatOps F] in
/-- A persistent fact beside each member of a family. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's cells of one kind, at the end of their round, closed: their counters are at zero. -/
theorem close_cells (cell : Fin 7 → GSem nD τ sig) (κ : Fin 7 → ℕ) (hinv : ∀ k, records m K ⊢ cellInv ER (sched m) (κ k) (cell k)) :
    iprop(records m K ∗ bigSep Finset.univ fun k => atPos ER (cell k) 1 ∅ 0) ⊢ |={Set.univ}=> (bigSep Finset.univ fun k => semVal (cell k) 0 : sProp 𝕄) :=
  (bigSep_beside fun k _ => (sep_mono_left (hinv k)).trans
    (Rounds.cell_close ER (sched m) (Set.mem_univ _) (fun h => h) (duties_later m (cell k)))).trans (bigSep_fupd _ _)

omit [FloatOps F] in
theorem recv_some (c : Dev nD) (f : Buf (Elt F) ((c : Thread nD τ).loc cc0_scratch3)) :
    (bigSep Finset.univ fun k : Fin 7 => rPts c k.succ f) ⊢ bigSep Finset.univ fun k : Fin 7 => iprop(∃ f, rPts (F := F) c k.rev.succ f) := by
  rw [bigSep_univ_equiv revEquiv]
  exact bigSep_mono fun k _ => exists_intro (Φ := fun f => rPts (F := F) c k.rev.succ f) f
omit [FloatOps F] in
theorem send_some (c : Dev nD) (f : Buf (Elt F) ((c : Thread nD τ).loc cc0_scratch2)) :
    (bigSep Finset.univ fun k : Fin 7 => sPts c k.succ f) ⊢ bigSep Finset.univ fun k : Fin 7 => iprop(∃ f, sPts (F := F) c k.succ f) :=
  bigSep_mono fun k _ => exists_intro (Φ := fun f => sPts (F := F) c k.succ f) f

/-! ## The whole body -/

/-- What the body starts from, -/
def bodyIn (c : Dev nD) : sProp 𝕄 :=
  iprop(records m K ∗ linear c ∗ cred (tallyAt (barCell c) () 7) ∗ (bigSep Finset.univ fun k => cred (tallyAt (recvCell c k) () N)) ∗ levAts L lv
    ∗ owesSome c (O₀ c)
    ∗ ((∃ f, (c : Thread nD τ).loc cc0_scratch0 ↦{fullShare} f) ∗ (∃ f, (c : Thread nD τ).loc cc0_scratch1 ↦{fullShare} f)
      ∗ (∃ f, (c : Thread nD τ).loc cc0_scratch2 ↦{fullShare} f) ∗ (∃ f, (c : Thread nD τ).loc cc0_scratch3 ↦{fullShare} f))
    ∗ staged m c ∗ (∃ f, (c : Thread nD τ).loc cc0_stg3_0 ↦{fullShare} f))

/-- the counters at zero and the scratch buffers it gives back, -/
def bodyBack (c : Dev nD) : sProp 𝕄 :=
  iprop(((∃ f, (c : Thread nD τ).loc cc0_scratch0 ↦{fullShare} f) ∗ (∃ f, (c : Thread nD τ).loc cc0_scratch1 ↦{fullShare} f)
      ∗ (∃ f, (c : Thread nD τ).loc cc0_scratch2 ↦{fullShare} f) ∗ (∃ f, (c : Thread nD τ).loc cc0_scratch3 ↦{fullShare} f))
    ∗ semVal (barCell c) 0 ∗ (bigSep Finset.univ fun k => semVal (sendCell c k) 0) ∗ (bigSep Finset.univ fun k => semVal (recvCell c k) 0))
/-- and all it ends with. -/
def bodyOut (c : Dev nD) : sProp 𝕄 :=
  iprop(bodyBack c ∗ owesSome c 0 ∗ staged m c ∗ ((c : Thread nD τ).loc cc0_stg3_0 ↦{fullShare} outC m c))

theorem body_run (c : Dev nD) : bodyIn m K c ⊢ WP c flat (fun _ => bodyOut m c) := by
  unfold flat WP
  simp only [Prog.lift, Prog.bind_op, Prog.bind_ret, wp_deviceId]
  unfold bodyIn linear O₀
  iintro ⟨#HR, ⟨⟨HaB, HaS, HaV⟩, HtB, HtS, HtV⟩, HcB, HcV, #Hlev, HO, ⟨H0, H1, ⟨%f2, H2⟩, ⟨%f3, H3⟩⟩, Hst, Hout⟩
  ihave H2' := (Entails.of_eq (send_slots c f2)) $$ H2
  ihave H3' := (Entails.of_eq (recv_slots c f3)) $$ H3
  icases H2' with ⟨H20, H2s⟩
  icases H3' with ⟨H30, H3s⟩
  -- the signals
  iapply (wp_stage (wp_seq7 (I := sigI m K c) (sig_step m K c))) $$ [HO HtB H3s]
  · unfold sigI
    rw [bigSep_finFrom_zero, bigSep_finFrom_zero]
    isplitr; · iexact HR
    isplitl [HO]; · iexact HO
    isplitl [HtB]; · iexact HtB
    iapply (recv_some c f3); iexact H3s
  iintro %_ HI
  unfold sigI owedBar
  rw [sum_finFrom_self, add_zero]
  icases HI with ⟨-, HO, -, -⟩
  -- the wait
  iapply (wp_stage (bar_wait m K c)) $$ [HO HcB HaB]
  · isplitr; · iexact HR
    isplitr; · iexact Hlev
    isplitl [HcB]; · iexact HcB
    isplitl [HO] <;> iassumption
  iintro %_ ⟨HO, HaB, Hbp⟩
  -- the local computation
  iapply (wp_stage (local_step m c)) $$ [Hst H0 H1]
  · isplitl [Hst]; · iexact Hst
    isplitl [H0] <;> iassumption
  iintro %Y ⟨%hY, Hst, HT⟩
  subst hY
  -- the chunks sent
  iapply (wp_stage (wp_seq7 (I := xferI m K c) (xfer_step m K c))) $$ [HT HO HtS HtV H2s Hbp]
  · unfold xferI
    simp only [bigSep_finFrom_zero, bigSep_finUpTo_zero]
    isplitr; · iexact HR
    isplitl [HT]; · iexact HT
    isplitl [HO]; · iexact HO
    isplitl [HtS]; · iexact HtS
    isplitl [HtV]; · iexact HtV
    isplitl [H2s]
    · iapply (send_some c f2); iexact H2s
    isplitl [Hbp]; · iexact Hbp
    iempintro
  iintro %_ HI
  unfold xferI owedRecv
  simp only [bigSep_finUpTo_self]
  rw [sum_finFrom_self]
  icases HI with ⟨-, HT, HO, -, -, -, -, HcS⟩
  -- the own chunk kept
  iapply (wp_stage (keep_step m c)) $$ [HT H30]
  · isplitl [HT]; · iexact HT
    iexists f3; iexact H30
  iintro %_ ⟨HT, H30⟩
  -- the arrivals
  iapply (wp_stage (wp_seq7 (I := recvI m K c) (recv_step m K c))) $$ [HO HaV HcV]
  · unfold recvI
    simp only [bigSep_finFrom_zero, bigSep_finUpTo_zero]
    isplitr; · iexact HR
    isplitl [HO]; · iexact HO
    isplitl [HaV]; · iexact HaV
    isplitl [HcV]; · iexact HcV
    isplitl <;> iempintro
  iintro %_ HI
  unfold recvI
  simp only [bigSep_finUpTo_self]
  icases HI with ⟨-, HO, -, -, Hrp, HaV⟩
  -- the departures
  iapply (wp_stage (wp_seq7 (I := doneI m K c) (done_step m K c))) $$ [HO HaS HcS]
  · unfold doneI
    simp only [bigSep_finFrom_zero, bigSep_finUpTo_zero]
    isplitr; · iexact HR
    isplitl [HO]; · iexact HO
    isplitl [HaS]; · iexact HaS
    isplitl [HcS]; · iexact HcS
    isplitl <;> iempintro
  iintro %_ HI
  unfold doneI
  simp only [bigSep_finUpTo_self]
  icases HI with ⟨-, HO, -, -, Hsp, HaS⟩
  -- the cells closed
  imod (Rounds.cell_close ER (sched m) (Set.mem_univ (K (c, .inl ()))) (fun h => h) (R := 1) (duties_later m (barCell c))) $$ [HaB] with HzB
  · isplitr; · iapply (inv_bar m K c); iexact HR
    iexact HaB
  imod (close_cells m K (sendCell c) (fun k => K (c, .inr (.inl k))) (inv_send m K c)) $$ [HaS] with HzS
  · isplitr; · iexact HR
    iexact HaS
  imod (close_cells m K (recvCell c) (fun k => K (c, .inr (.inr k))) (inv_recv m K c)) $$ [HaV] with HzV
  · isplitr; · iexact HR
    iexact HaV
  -- the sum
  ihave Hs := (sum_step m c) $$ [H30 Hrp Hout]
  · isplitl [H30 Hrp]
    · rw [recv_slots]
      isplitl [H30]; · iexact H30
      iexact Hrp
    · iexact Hout
  iapply (wp_wand frame _ _) $$ Hs
  iintro %_ ⟨H3, Hout⟩
  unfold bodyOut bodyBack tables
  icases HT with ⟨H0, H1⟩
  isplitr [HO Hst Hout]
  · isplitr [HzB HzS HzV]
    · isplitl [H0]; · iexists _; iexact H0
      isplitl [H1]; · iexists _; iexact H1
      isplitr [H3]
      · iapply (send_back c)
        isplitl [H20]; · iexists f2; iexact H20
        iexact Hsp
      · iexists _; iexact H3
    · isplitl [HzB]; · iexact HzB
      isplitl [HzS] <;> iassumption
  isplitl [HO]; · iexact HO
  isplitl [Hst] <;> iassumption

end Cert.MoE

end
-- ==== Proof.Launch.lean ====
/-
# The launch

Every device starts with its own buffers, its counters at zero and the promise `O₀` of what it will signal and send;
the cells' invariants are allocated for all devices at once and every token goes to the device that pays with it. Then
each device runs the body, and every execution ends with each result block at `outC`, the arguments unchanged and
every counter back at zero.
-/
module

public import proofs.«01_k».proof.Proof.Body
public import proofs.«01_k».proof.Proof.Gen.KernelIdeal.Points
public import Idealize.ShloMosaic.Lib.Pipeline.CollectiveSegs

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (g : Dev nD → PrngReg)

/-! ## What a device holds before and after its one grid point -/

/-- The two counters no transfer uses, those of slot 0. -/
def idle (c : Dev nD) : sProp 𝕄 :=
  iprop(semVal ((c : Thread nD τ), .dma (sSem 0)) 0 ∗ semVal ((c : Thread nD τ), .dma (rSem 0)) 0)

/-- The records, the device's positions and tokens, and the idle counters. -/
def share (c : Dev nD) : sProp 𝕄 := iprop((∃ K, records m K ∗ linear c) ∗ idle c)

def start (c : Dev nD) : sProp 𝕄 :=
  iprop(share m c ∗ (cred (tallyAt (barCell c) () 7) ∗ bigSep Finset.univ fun k => cred (tallyAt (recvCell c k) () N)) ∗ levAts L lv)

def scratch (c : Dev nD) : sProp 𝕄 :=
  iprop((∃ f, (c : Thread nD τ).loc cc0_scratch0 ↦{fullShare} f) ∗ (∃ f, (c : Thread nD τ).loc cc0_scratch1 ↦{fullShare} f)
      ∗ (∃ f, (c : Thread nD τ).loc cc0_scratch2 ↦{fullShare} f) ∗ (∃ f, (c : Thread nD τ).loc cc0_scratch3 ↦{fullShare} f))

def Φ₀ (c : Dev nD) : sProp 𝕄 := iprop(start m c ∗ scratch c)
def Φ₁ (c : Dev nD) : sProp 𝕄 := iprop(bodyBack (F := F) c ∗ idle c)

def dats (_ : Fin 1) (c : Dev nD) : Dat τ (Elt F) Unit ℕ UU ℕ cfg0 c where
  A w := m ((cfg0.win w).arr.view.loc (c : Thread nD τ))
  after w _ := match w with
    | ⟨0, _⟩ => xC m c
    | ⟨1, _⟩ => riC m c
    | ⟨2, _⟩ => wC m c
    | ⟨3, _⟩ => outC m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem before_x (c : Dev nD) (d) : (dats m 0 c).before (0 : Fin 4) t0_0 d = xC m c := by
  unfold Dat.before; rw [if_pos (fetch0_0 t0_0)]; rfl
theorem before_ri (c : Dev nD) (d) : (dats m 0 c).before (1 : Fin 4) t0_0 d = riC m c := by
  unfold Dat.before; rw [if_pos (fetch0_1 t0_0)]; rfl
theorem before_w (c : Dev nD) (d) : (dats m 0 c).before (2 : Fin 4) t0_0 d = wC m c := by
  unfold Dat.before; rw [if_pos (fetch0_2 t0_0)]; rfl

/-- The body's obligation at the one grid point, with the windows listed. -/
def pointPre (c : Dev nD) : sProp 𝕄 :=
  iprop(Φ₀ m c ∗ (dats m 0 c).owesAt () t0_0.castSucc
    ∗ (∃ d, (c : Thread nD τ).loc cc0_stg0_0 ↦{fullShare} (dats m 0 c).before (0 : Fin 4) t0_0 d)
    ∗ (∃ d, (c : Thread nD τ).loc cc0_stg1_0 ↦{fullShare} (dats m 0 c).before (1 : Fin 4) t0_0 d)
    ∗ (∃ d, (c : Thread nD τ).loc cc0_stg2_0 ↦{fullShare} (dats m 0 c).before (2 : Fin 4) t0_0 d)
    ∗ (∃ d, (c : Thread nD τ).loc cc0_stg3_0 ↦{fullShare} (dats m 0 c).before (3 : Fin 4) t0_0 d))
def pointPost (c : Dev nD) : sProp 𝕄 :=
  iprop(Φ₁ (F := F) c ∗ (dats m 0 c).owesAt () t0_0.succ
    ∗ ((c : Thread nD τ).loc cc0_stg0_0 ↦{fullShare} xC m c) ∗ ((c : Thread nD τ).loc cc0_stg1_0 ↦{fullShare} riC m c)
    ∗ ((c : Thread nD τ).loc cc0_stg2_0 ↦{fullShare} wC m c) ∗ ((c : Thread nD τ).loc cc0_stg3_0 ↦{fullShare} outC m c))

theorem point (c : Dev nD) : pointPre m c ⊢ WP c flat (fun _ => pointPost m c) := by
  unfold pointPre Φ₀ start share
  iintro ⟨⟨⟨⟨⟨%K, HR, Hlin⟩, Hidle⟩, ⟨HcB, HcV⟩, Hlev⟩, Hscr⟩, Ho, ⟨%d0, Hx⟩, ⟨%d1, Hri⟩, ⟨%d2, Hw⟩, ⟨%d3, Hout⟩⟩
  rw [before_x, before_ri, before_w]
  unfold Dat.owesAt Pipeline.owesWithin
  rw [show (dats m 0 c).owed t0_0.castSucc = O₀ c from rfl]
  icases Ho with ⟨%W, -, HO⟩
  ihave H := (body_run m K c) $$ [HR Hlin HcB HcV Hlev HO Hscr Hx Hri Hw Hout]
  · unfold bodyIn owesSome staged
    isplitl [HR]; · iexact HR
    isplitl [Hlin]; · iexact Hlin
    isplitl [HcB]; · iexact HcB
    isplitl [HcV]; · iexact HcV
    isplitl [Hlev]; · iexact Hlev
    isplitl [HO]; · iexists W; iexact HO
    isplitl [Hscr]; · unfold scratch; iexact Hscr
    isplitr [Hout]
    · isplitl [Hx]; · iexact Hx
      isplitl [Hri] <;> iassumption
    · iexists _; iexact Hout
  iapply (wp_wand frame _ _) $$ H
  iintro %_ H
  unfold bodyOut owesSome staged pointPost Φ₁ Dat.owesAt Pipeline.owesWithin
  rw [show (dats m 0 c).owed t0_0.succ = 0 from rfl]
  icases H with ⟨Hb, ⟨%W', HO⟩, ⟨Hx, Hri, Hw⟩, Hout⟩
  isplitl [Hb Hidle]; · isplitl [Hb] <;> iassumption
  isplitl [HO]
  · iexists W'
    isplitr; · ipureintro; exact fun _ _ => Or.inl trivial
    iexact HO
  isplitl [Hx]; · iexact Hx
  isplitl [Hri]; · iexact Hri
  isplitl [Hw] <;> iassumption

set_option maxRecDepth 4000 in
theorem body_obligation (c : Dev nD) : BodyObligation (dats (F := F) m 0 c) (defs₀ (F := F)) 𝒱₀ () Set.univ := fun t => by
  rw [fin_N0 t, bigSep_W0, bigSep_W0]
  simp only [owns_whole]
  show pointPre m c ⊢ wp frame (wpE (defs₀ (F := F)) 𝒱₀ c none) Set.univ
    (cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5) (fun _ => pointPost m c)
  rw [body_eq_flat]
  exact point m c

/-! ## The cells, the tokens and the counters of a launch -/

/-- A device's own counters: the pair of slot 0, and its send and receive cells. -/
abbrev OIx : Type := Bool ⊕ (Fin 7 ⊕ Fin 7)
def osem : OIx → SemLoc sig
  | .inl b => .dma (if b then rSem 0 else sSem 0)
  | .inr k => csem (.inr k)

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide

theorem kcell_injective : Function.Injective (kcell : Dev nD × CIx → GSem nD τ sig) := by
  rintro ⟨c, k⟩ ⟨c', k'⟩ h
  have h1 : c = c' := congrArg (fun g : GSem nD τ sig => g.1.1) h
  have h2 : k = k' := csem_injective (congrArg Prod.snd h)
  rw [h1, h2]
def theCells : Finset (GSem nD τ sig) := Finset.univ.map ⟨kcell, kcell_injective⟩

/-- The duties of a device's own cells: seven of its barrier cell, one of each of the others. -/
abbrev TIx : Type := Fin 7 ⊕ (Fin 7 ⊕ Fin 7)
def tokCell : TIx → CIx × Fin 7
  | .inl k => (.inl (), k)
  | .inr k => (.inr k, 0)
theorem tokCell_injective : Function.Injective tokCell := by decide
def tokOf (ct : Dev nD × TIx) : GSem nD τ sig × ℕ × Fin 7 := (kcell (ct.1, (tokCell ct.2).1), 0, (tokCell ct.2).2)
theorem tokOf_injective : Function.Injective (tokOf : Dev nD × TIx → GSem nD τ sig × ℕ × Fin 7) := by
  rintro ⟨c, j⟩ ⟨c', j'⟩ h
  have h1 := kcell_injective (congrArg (fun x : GSem nD τ sig × ℕ × Fin 7 => x.1) h)
  have h2 : (tokCell j).2 = (tokCell j').2 := congrArg (fun x : GSem nD τ sig × ℕ × Fin 7 => x.2.2) h
  have h3 : j = j' := tokCell_injective (Prod.ext (congrArg Prod.snd h1) h2)
  rw [show c = c' from congrArg Prod.fst h1, h3]
def theToks : Finset (GSem nD τ sig × ℕ × Fin 7) := Finset.univ.map ⟨tokOf, tokOf_injective⟩

def u₀ : UU := (initOf (Pipeline.cells cfgs cellOf_inj) (Pipeline.launchToks cfgs cellOf_inj), initOf theCells theToks)

/-- The tokens of device `c`'s own cells. -/
def toks (c : Dev nD) : sProp 𝕄 :=
  iprop((bigSep Finset.univ fun k => dutyTok ER (barCell c) 0 k) ∗ (bigSep Finset.univ fun k => dutyTok ER (sendCell c k) 0 0)
    ∗ bigSep Finset.univ fun k => dutyTok ER (recvCell c k) 0 0)

/-- What the launch deals device `c`. -/
def dealt (c : Dev nD) : sProp 𝕄 :=
  iprop((bigSep Finset.univ fun k : CIx => roundState ER (sched m) (kcell (c, k)) 0)
    ∗ (bigSep Finset.univ fun k : CIx => iprop(atPos ER (kcell (c, k)) 0 ∅ 0 ∗ reached ER (kcell (c, k)) 0)) ∗ toks c)

theorem fund_cells : BI.own (ER (initOf theCells theToks)) ⊢ (|==> bigSep Finset.univ (dealt m) : sProp 𝕄) := by
  have hX (Φ : GSem nD τ sig → sProp 𝕄) : bigSep theCells Φ = bigSep Finset.univ fun c : Dev nD => bigSep Finset.univ fun k : CIx => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => by unfold toks; rw [bigSep_univ_sum, bigSep_univ_sum]; rfl
  iintro HX
  imod (Rounds.fund ER (sched m) theCells theToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

omit [FloatOps F] in
theorem bigSep_bool (Φ : Bool → sProp 𝕄) : bigSep Finset.univ Φ = iprop(Φ false ∗ Φ true) :=
  bigSep_univ_eq_bigSepL [false, true] (by decide) (by decide) Φ

omit [FloatOps F] in
theorem ownSems0_eq (c : Dev nD) : (Pipeline.ownSems0 (Ix := Unit) (Name := ℕ) (U := UU) (Lvl := ℕ) (Val := Elt F) (τ := τ) osem c : sProp 𝕄)
    = iprop(idle c ∗ (bigSep Finset.univ fun k => semVal (sendCell c k) 0) ∗ bigSep Finset.univ fun k => semVal (recvCell c k) 0) := by
  unfold Pipeline.ownSems0 idle; rw [bigSep_univ_sum, bigSep_univ_sum, bigSep_bool]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_unit (Φ : Unit → sProp 𝕄) : bigSep Finset.univ Φ = Φ () :=
  bigSep_univ_eq_bigSepL [()] (by decide) (by decide) Φ

omit [FloatOps F] in
/-- A family over a device's cells, by kind. -/
theorem bigSep_cells (Φ : CIx → sProp 𝕄) : bigSep Finset.univ Φ
    = iprop(Φ (.inl ()) ∗ (bigSep Finset.univ fun k : Fin 7 => Φ (.inr (.inl k))) ∗ bigSep Finset.univ fun k : Fin 7 => Φ (.inr (.inr k))) := by
  rw [bigSep_univ_sum, bigSep_univ_sum, bigSep_unit]; rfl

theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ idle c) := by
  unfold dealt
  rw [ownSems0_eq, unscopedSems0_eq]
  iintro ⟨⟨Hidle, HS, HV⟩, HB, Hst, Hat, Htok⟩
  ihave Hv := (Entails.of_eq (bigSep_cells fun k => (semVal (kcell (c, k)) 0 : sProp 𝕄)).symm) $$ [HB HS HV]
  · isplitl [HB]; · iexact HB
    isplitl [HS]; · iexact HS
    iexact HV
  imod (show iprop((bigSep Finset.univ fun k : CIx => semVal (kcell (c, k)) 0) ∗ bigSep Finset.univ fun k : CIx => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## Every token to the device that pays with it -/

/-- Over all devices and distances: a family of cells' members is the family of the peers' cells' members. -/
theorem around (Ψ : Dev nD → Fin 7 → sProp 𝕄) :
    (bigSep Finset.univ fun c : Dev nD => bigSep Finset.univ fun k => Ψ c k)
      = bigSep Finset.univ fun c : Dev nD => bigSep Finset.univ fun k => Ψ (peer c k) k := by
  rw [bigSep_univ_comm, bigSep_univ_comm (fun (c : Dev nD) k => Ψ (peer c k) k)]
  exact bigSep_congr fun k _ => bigSep_univ_equiv (peerEquiv k) _

theorem toks_around : (bigSep Finset.univ fun c : Dev nD => (toks c : sProp 𝕄))
    ⊢ bigSep Finset.univ fun c : Dev nD => iprop((bigSep Finset.univ (payBar c)) ∗ (bigSep Finset.univ (paySend c)) ∗ bigSep Finset.univ (payRecv c)) := by
  have hb : (bigSep Finset.univ fun c : Dev nD => bigSep Finset.univ fun k : Fin 7 => (dutyTok ER (barCell c) 0 k : sProp 𝕄))
      = bigSep Finset.univ fun c : Dev nD => bigSep Finset.univ (payBar c) := by
    rw [bigSep_congr (s := Finset.univ) fun (c : Dev nD) _ => bigSep_univ_equiv revEquiv fun k : Fin 7 => (dutyTok ER (barCell c) 0 k : sProp 𝕄)]
    exact around fun c k => dutyTok ER (barCell c) 0 k.rev
  have hr : (bigSep Finset.univ fun c : Dev nD => bigSep Finset.univ fun k : Fin 7 => (dutyTok ER (recvCell c k) 0 0 : sProp 𝕄))
      = bigSep Finset.univ fun c : Dev nD => bigSep Finset.univ (payRecv c) := around fun c k => dutyTok ER (recvCell c k) 0 0
  unfold toks
  rw [bigSep_sep', bigSep_sep', bigSep_sep', bigSep_sep', hb, hr]
  exact Entails.refl _

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ idle c) : sProp 𝕄)
      ⊢ bigSep Finset.univ (share m) := by
  rw [bigSep_sep', bigSep_sep', bigSep_sep', ← bigSep_univ_prod (fun ck : Dev nD × CIx => iprop(∃ κ : ℕ, cellInv ER (sched m) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok, Hidle⟩
  ihave HK := (BI.bigSep_exists_pi Finset.univ (fun (ck : Dev nD × CIx) (κ : ℕ) => (cellInv ER (sched m) κ (kcell ck) : sProp 𝕄))) $$ HI
  icases HK with ⟨%K, #HI⟩
  ihave Htk := (toks_around (F := F)) $$ Htok
  iapply (bigSep_beside (R := records m K) (Φ := fun c => iprop((bigSep Finset.univ fun k : CIx => atPos ER (kcell (c, k)) 0 ∅ 0)
      ∗ (iprop((bigSep Finset.univ (payBar c)) ∗ (bigSep Finset.univ (paySend c)) ∗ bigSep Finset.univ (payRecv c))) ∗ idle c)) (fun c _ => by
    unfold share linear
    rw [bigSep_cells]
    iintro ⟨HR, Hat, Htok, Hidle⟩
    isplitr [Hidle]
    · iexists K
      isplitl [HR]; · iexact HR
      isplitl [Hat]; · iexact Hat
      iexact Htok
    · iexact Hidle))
  isplitr
  · unfold records; isplitl; · iexact HI
    iexact HR
  · simp only [bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (share m) :=
  ((bigSep_mono fun c _ => core_alloc m c).trans (bigSep_fupd _ _)).trans (BI.fupd_mono (regroup m))

omit [FloatOps F] in
/-- What a device is owed: seven signals, and one chunk's credit on each receive cell. -/
theorem creds (c : Dev nD) : (Pipeline.launchCred O₀ c : sProp 𝕄)
    ⊢ iprop(cred (tallyAt (barCell c) () 7) ∗ bigSep Finset.univ fun k => cred (tallyAt (recvCell c k) () N)) := by
  have hb : (bigSep Finset.univ fun k : Fin 7 => Pipeline.launchCred (fun d => tallyAt (barCell (peer d k)) () 1) c : sProp 𝕄)
      ⊢ cred (tallyAt (barCell c) () 7) := by
    rw [show (tallyAt (barCell c) () 7 : CellTallies nD τ sig Unit) = ∑ _k : Fin 7, tallyAt (barCell c) () 1 by
      rw [sum_tallyAt_const, Finset.card_univ, Fintype.card_fin], Pipeline.cred_finsetSum]
    exact bigSep_mono fun k _ => Pipeline.launchCred_tallyAt (SemLoc.reg barS) (fun d => peer d k) (fun d => peer d k.rev)
      (fun d => peer_rev' d k) (fun d => peer_rev d k) () 1 c
  have hr : (bigSep Finset.univ fun k : Fin 7 => Pipeline.launchCred (fun d => tallyAt (recvCell (peer d k) k) () N) c : sProp 𝕄)
      ⊢ bigSep Finset.univ fun k => cred (tallyAt (recvCell c k) () N) :=
    bigSep_mono fun k _ => Pipeline.launchCred_tallyAt (SemLoc.dma (rSem k.succ)) (fun d => peer d k) (fun d => peer d k.rev)
      (fun d => peer_rev' d k) (fun d => peer_rev d k) () N c
  have e : (O₀ : Dev nD → CellTallies nD τ sig Unit)
      = fun d => (∑ k : Fin 7, tallyAt (recvCell (peer d k) k) () N) + ∑ k : Fin 7, tallyAt (barCell (peer d k)) () 1 := by
    funext d; unfold O₀ owedRecv owedBar; rw [finFrom_zero]
  rw [e, Pipeline.launchCred_add, Pipeline.launchCred_sum, Pipeline.launchCred_sum]
  iintro ⟨Hr, Hb⟩
  isplitl [Hb]
  · iapply hb; iexact Hb
  · iapply hr; iexact Hr

/-! ## The side conditions, and the run -/

/-- The argument no window stages, kept aside. -/
def aside (c : Dev nD) : sProp 𝕄 := ((c : Thread nD τ).loc main_arg1 ↦{fullShare} m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred O₀ c ∗ prngReg c (g c) ∗ share m c)
      ⊢ |={Set.univ}=> iprop(start m c ∗ aside m c) := by
  rw [Pipeline.unscopedRestP_none, show (cfg0).spec = spec0 from rfl, unscopedRest0_eq]
  iintro ⟨Ha, Hlev, Hcr, -, HG⟩
  ihave Hc := (creds (F := F) c) $$ Hcr
  imodintro
  unfold start aside
  isplitr [Ha]
  · isplitl [HG]; · iexact HG
    isplitl [Hc]; · iexact Hc
    iexact Hlev
  · iexact Ha

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (cfg0).spec = spec0 from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, show (cfg0).spec = spec0 from rfl, scopedRest0_eq, ownSems0_eq, unscopedSems0_eq]
  unfold Φ₁ bodyBack
  iintro ⟨⟨Hr, HzB, HzS, HzV⟩, Hidle⟩
  isplitl [HzB]; · iexact HzB
  isplitr [Hr]
  · isplitl [Hidle]; · iexact Hidle
    isplitl [HzS] <;> iassumption
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What the array of window `w` holds after the run. -/
def finalA (c : Dev nD) (w : Fin cfg0.W) : Buf (Elt F) ((cfg0.win w).arr.view.loc (c : Thread nD τ)) := (dats m 0 c).arrAt w cfg0.N

/-- The result and the arguments after the run. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

set_option maxRecDepth 8000 in
/-- For any float values, from any memory with zero counters, every fair execution ends, in a state as `QC` says with
    every counter at zero. -/
theorem run_main : θ_run defs (onTc (τ := τ) (main (F := F))) ⟨m, fun _ => 0, g⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m g main
    (hmain := fun _ => rfl)
    (hbody := body_obligation m) (hne := fun w => block_pos0 w) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := share m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := aside m)
    (hX := start_intro m g) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold aside
      iintro ⟨Hu, Ha, HSI⟩
      icombine HSI Ha gives %h
      imod (Pipeline.unscopedSems0_read (X := unscopedSems0 c) (c := c) fupd_intro s') $$ [Hu HSI] with ⟨%hs, HSI⟩
      · isplitl [Hu] <;> iassumption
      imodintro
      isplitr
      · ipureintro; exact ⟨hs, Buf.eq_of_forall_mem_univ h⟩
      · iexact HSI)
    (hQ := fun _ h hs => ⟨fun c => ⟨fun w => (h c).1 w, (h c).2.2.2⟩, sem_eq_zero hs fun c => (h c).2.2.1⟩)

end Cert.MoE

end
-- ==== Proof.Frames.lean ====
/-
# The kernel's two frames

Every execution of the kernel ends, with its arguments unchanged and every counter at zero: at floats as bit patterns
and at the extended reals, from the one run proved for any float values.
-/
module

public import proofs.«01_k».proof.Defs
public import proofs.«01_k».proof.Proof.Launch
public import proofs.«01_k».proof.Proof.Gen.Kernel

@[expose] public section

noncomputable section

namespace Cert.MoE

open Cert.KernelIdeal Cert.KernelIdeal.Gen
open Idealize.ShloMosaic
open Idealize.ShloMosaic.TcCoe
open Idealize.SL.Sem
open Idealize.ShloMosaic.Pipeline (Dat)

variable {F : FTy → Type} [FloatOps F] (m : (ℓ : Loc nD τ sig) → Buf (Elt F) ℓ) (g : Dev nD → PrngReg)

theorem finalA_x (c : Dev nD) : finalA m c (0 : Fin 4) = m ((c : Thread nD τ).loc main_arg0) := (dats m 0 c).arrAt_in (0 : Fin 4) rfl _
theorem finalA_ri (c : Dev nD) : finalA m c (1 : Fin 4) = m ((c : Thread nD τ).loc main_arg2) := (dats m 0 c).arrAt_in (1 : Fin 4) rfl _
theorem finalA_w (c : Dev nD) : finalA m c (2 : Fin 4) = m ((c : Thread nD τ).loc main_arg3) := (dats m 0 c).arrAt_in (2 : Fin 4) rfl _

/-- The arguments unchanged on every device, the result what the result window's array holds, the counters at zero. -/
theorem run_args : θ_run (defs (F := F)) (onTc (τ := τ) (main (F := F))) ⟨m, fun _ => 0, g⟩ (fun r =>
    (∀ c : Dev nD, r.2.mem ((c : Thread nD τ).loc main_v1) = finalA m c (3 : Fin 4)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run _ _ _).mono (fun r ⟨h, hs⟩ => ⟨fun c => ⟨(h c).1 (3 : Fin 4), ((h c).1 (0 : Fin 4)).trans (finalA_x m c), (h c).2,
    ((h c).1 (1 : Fin 4)).trans (finalA_ri m c), ((h c).1 (2 : Fin 4)).trans (finalA_w m c)⟩, hs⟩) (run_main m g)

/-- The frame, for any float values. -/
theorem run_frame : θ_run (defs (F := F)) (onTc (τ := τ) (main (F := F))) ⟨m, fun _ => 0, g⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run _ _ _).mono (fun r ⟨h, hs⟩ => ⟨fun c => (h c).2, hs⟩) (run_args m g)

theorem frame_ideal : Cert.quiescent_KernelIdeal (hKernelIdeal := Cert.KernelIdeal.Gen.facts) := fun m g _ => run_frame m g

/-! ## The same text under other names

The program printed for floats as bit patterns and the one printed for the extended reals differ in their names alone. -/

section Same
attribute [local instance] Cert.KernelIdeal.Gen.facts Cert.Kernel.Gen.facts

theorem body_same : @Cert.Kernel.cc0_body F _ _ = @Cert.KernelIdeal.cc0_body F _ _ := rfl
theorem defs₀_same : @Cert.Kernel.defs₀ F _ _ = @Cert.KernelIdeal.defs₀ F _ _ := by
  refine congrArg (Defs.onTc (nD := Cert.KernelIdeal.nD) (τ := Cert.KernelIdeal.τ) (sig := Cert.KernelIdeal.sig) (Val := Elt F) (Λ := Cert.KernelIdeal.Λ₀)) (funext fun ℓ => funext fun a => ?_)
  match ℓ, a with
  | ⟨0, _⟩, (t, s) => rfl
  | ⟨n + 1, h⟩, _ => exact absurd h (by omega)
theorem defs_same : @Cert.Kernel.defs F _ _ = @Cert.KernelIdeal.defs F _ _ := congrArg (Pipeline.defs Cert.KernelIdeal.pcfgs) defs₀_same

end Same

theorem frame_bits : Cert.quiescent_Kernel (hKernel := Cert.Kernel.Gen.facts) := fun m g _ => by
  rw [defs_same]
  exact run_frame (F := Bits) m g

end Cert.MoE

end
-- ==== Proof.RefFrame.lean ====
/-
# The reference's frame
-/
module

public import proofs.«01_k».proof.Defs
public import proofs.«01_k».proof.Proof.Gen.ReferenceIdeal.Run
public import Idealize.ShloMosaic.Lib.Quiescent

@[expose] public section

noncomputable section

namespace Cert.MoE

open Idealize.ShloMosaic Idealize.SL.Sem

/-- Every execution of the reference ends with its arguments unchanged; it has no counter. -/
theorem frame_ref : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

end Cert.MoE

end
-- ==== Proof.Counts.lean ====
/-
# Counting the earlier tokens of an expert

A token's rank among the tokens routed to an expert is the number of earlier tokens routed there. Ranks of two tokens of
one expert differ. Around that number: what a comparison's bit is as an extended real, a sum of such bits as a count, and
a count converted to a 32-bit integer.
-/
module

public import Idealize.ShloMosaic.PureOps.Ideal
public import Idealize.ShloMosaic.Lib.Affine
public import Mathlib.Data.BitVec

@[expose] public section

noncomputable section

namespace Cert.MoE

open Idealize.ShloMosaic
open scoped BigOperators

/-! ## The count -/

/-- How many tokens before `t` are routed to `e`. -/
def earlier (ρ : Fin 1024 → BitVec 32) (e : BitVec 32) (t : Fin 1024) : ℕ :=
  (Finset.univ.filter fun s => s < t ∧ ρ s = e).card

theorem earlier_lt (ρ : Fin 1024 → BitVec 32) (e : BitVec 32) (t : Fin 1024) : earlier ρ e t < 1024 := by
  have h : (Finset.univ.filter fun s => s < t ∧ ρ s = e) ⊆ Finset.univ.erase t := fun s hs => by
    have := (Finset.mem_filter.1 hs).2.1
    exact Finset.mem_erase.2 ⟨ne_of_lt this, Finset.mem_univ _⟩
  refine lt_of_le_of_lt (Finset.card_le_card h) ?_
  rw [Finset.card_erase_of_mem (Finset.mem_univ t), Finset.card_univ, Fintype.card_fin]
  decide

/-- Of two tokens routed to one expert, the later has more tokens before it. -/
theorem earlier_lt_earlier (ρ : Fin 1024 → BitVec 32) (e : BitVec 32) (s t : Fin 1024) (hs : ρ s = e) (hst : s < t) :
    earlier ρ e s < earlier ρ e t := by
  refine Finset.card_lt_card ⟨fun u hu => ?_, fun h => ?_⟩
  · have hu := (Finset.mem_filter.1 hu).2
    exact Finset.mem_filter.2 ⟨Finset.mem_univ _, hu.1.trans hst, hu.2⟩
  · have := (Finset.mem_filter.1 (h (Finset.mem_filter.2 ⟨Finset.mem_univ s, hst, hs⟩))).2.1
    exact lt_irrefl _ this

theorem earlier_inj (ρ : Fin 1024 → BitVec 32) (e : BitVec 32) (s t : Fin 1024) (hs : ρ s = e) (ht : ρ t = e)
    (h : earlier ρ e s = earlier ρ e t) : s = t := by
  rcases lt_trichotomy s t with hlt | heq | hgt
  · exact absurd h (ne_of_lt (earlier_lt_earlier ρ e s t hs hlt))
  · exact heq
  · exact absurd h.symm (ne_of_lt (earlier_lt_earlier ρ e t s ht hgt))

/-! ## Bits -/

/-- A proposition as the number one or zero. -/
def bit (p : Prop) [Decidable p] : EReal := if p then 1 else 0

/-- A comparison's bit, widened and converted to a float. -/
theorem sitofp_bit (b : BitVec 1) (p : Prop) [Decidable p] (h : b = 1#1 ↔ p) :
    FloatOps.sitofp (F := Ideal) FTy.f32 (BitVec.setWidth 32 b) = bit p := by
  show (((BitVec.setWidth 32 b).toInt : ℝ) : EReal) = bit p
  unfold bit
  by_cases hp : p
  · rw [if_pos hp, h.2 hp]
    have : (BitVec.setWidth 32 1#1).toInt = 1 := by decide
    rw [this]; norm_num
  · rw [if_neg hp]
    have hb : b = 0#1 := by
      have hne : b ≠ 1#1 := fun hb => hp (h.1 hb)
      exact (BitVec.eq_zero_or_eq_one b).resolve_right hne
    rw [hb]
    have : (BitVec.setWidth 32 0#1).toInt = 0 := by decide
    rw [this]; norm_num

theorem bit_mul_bit (p q : Prop) [Decidable p] [Decidable q] : bit p * bit q = bit (p ∧ q) := by
  unfold bit
  by_cases hp : p <;> by_cases hq : q <;> simp [hp, hq]

theorem bit_congr {p q : Prop} [Decidable p] [Decidable q] (h : p ↔ q) : bit p = bit q := by
  unfold bit; exact if_congr h rfl rfl

theorem bit_mul (p : Prop) [Decidable p] (a : EReal) : bit p * a = if p then a else 0 := by
  unfold bit; split <;> simp

/-- A sum of bits is how many of them are one. -/
theorem sum_bit {ι : Type} [Fintype ι] (p : ι → Prop) [DecidablePred p] :
    ∑ i, bit (p i) = ((Finset.univ.filter p).card : EReal) := by
  unfold bit
  rw [Finset.sum_boole]

/-! ## Words -/

theorem toInt_ofNat (n : ℕ) (h : n < 2 ^ 31) : (BitVec.ofNat 32 n).toInt = n := by
  have hn : (BitVec.ofNat 32 n).toNat = n := by rw [BitVec.toNat_ofNat]; omega
  rw [BitVec.toInt_eq_toNat_of_lt (by rw [hn]; omega), hn]

theorem slt_ofNat (a b : ℕ) (ha : a < 2 ^ 31) (hb : b < 2 ^ 31) :
    IntOp.cmpi .slt (BitVec.ofNat 32 a) (BitVec.ofNat 32 b) = 1#1 ↔ a < b := by
  rw [IntOp.cmpi_slt, toInt_ofNat a ha, toInt_ofNat b hb, Int.ofNat_lt]

theorem sgt_ofNat (a b : ℕ) (ha : a < 2 ^ 31) (hb : b < 2 ^ 31) :
    IntOp.cmpi .sgt (BitVec.ofNat 32 a) (BitVec.ofNat 32 b) = 1#1 ↔ b < a := by
  rw [IntOp.cmpi_sgt, toInt_ofNat a ha, toInt_ofNat b hb, Int.ofNat_lt]

theorem ofNat_inj (a b : ℕ) (ha : a < 2 ^ 32) (hb : b < 2 ^ 32) : BitVec.ofNat 32 a = BitVec.ofNat 32 b ↔ a = b := by
  refine ⟨fun h => ?_, fun h => by rw [h]⟩
  have := congrArg BitVec.toNat h
  rwa [BitVec.toNat_ofNat, BitVec.toNat_ofNat, Nat.mod_eq_of_lt ha, Nat.mod_eq_of_lt hb] at this

theorem eq_ofNat (a b : ℕ) (ha : a < 2 ^ 32) (hb : b < 2 ^ 32) :
    IntOp.cmpi .eq (BitVec.ofNat 32 a) (BitVec.ofNat 32 b) = 1#1 ↔ a = b := by
  rw [IntOp.cmpi_eq, ofNat_inj a b ha hb]

/-- An equality's bit, widened to a word. -/
theorem word_of_eq (a e : BitVec 32) : BitVec.setWidth 32 (IntOp.cmpi .eq a e) = if a = e then 1 else 0 := by
  by_cases h : a = e
  · rw [if_pos h, IntOp.cmpi_eq.2 h]; rfl
  · rw [if_neg h, (BitVec.eq_zero_or_eq_one (IntOp.cmpi .eq a e)).resolve_right fun hb => h (IntOp.cmpi_eq.1 hb)]; rfl

/-- The bits of the tokens up to and including `t`, added as words, less `t`'s own: the word of the count. -/
theorem prefix_words (ρ : Fin 1024 → BitVec 32) (e : BitVec 32) (t : Fin 1024) :
    IntOp.subi (∑ s, if s ≤ t then BitVec.setWidth 32 (IntOp.cmpi .eq (ρ s) e) else 0) (BitVec.setWidth 32 (IntOp.cmpi .eq (ρ t) e))
      = BitVec.ofNat 32 (earlier ρ e t) := by
  show (∑ s, if s ≤ t then BitVec.setWidth 32 (IntOp.cmpi .eq (ρ s) e) else 0) - BitVec.setWidth 32 (IntOp.cmpi .eq (ρ t) e) = _
  have hsplit : ∀ s : Fin 1024, (if s ≤ t then BitVec.setWidth 32 (IntOp.cmpi .eq (ρ s) e) else 0)
      = (if s < t ∧ ρ s = e then (1 : BitVec 32) else 0) + (if t = s then BitVec.setWidth 32 (IntOp.cmpi .eq (ρ s) e) else 0) := fun s => by
    rw [word_of_eq]
    rcases lt_trichotomy s t with h | h | h
    · rw [if_pos h.le, if_neg h.ne', add_zero]
      exact if_congr ⟨fun he => ⟨h, he⟩, fun he => he.2⟩ rfl rfl
    · have hn : ¬(s < t ∧ ρ s = e) := fun hc => hc.1.ne h
      rw [if_pos h.le, if_neg hn, if_pos h.symm, zero_add]
    · have hn : ¬(s < t ∧ ρ s = e) := fun hc => lt_asymm hc.1 h
      rw [if_neg (not_le.2 h), if_neg hn, if_neg h.ne, add_zero]
  rw [Finset.sum_congr rfl fun s _ => hsplit s, Finset.sum_add_distrib, Finset.sum_ite_eq, if_pos (Finset.mem_univ t),
    add_sub_cancel_right, Finset.sum_boole]
  rfl

/-- A count converted to a 32-bit integer is the count's word. -/
theorem fptosi_count (n : ℕ) (h : n < 2 ^ 31) : FloatOps.fptosi (F := Ideal) (φ := FTy.f32) 32 (n : EReal) = BitVec.ofNat 32 n := by
  show Ideal.fptosi 32 (n : EReal) = _
  have hn : (n : EReal) = (((n : ℝ)) : EReal) := by simp
  rw [hn, Ideal.fptosi, Ideal.toIntClamped_coe, if_pos (Nat.cast_nonneg n), Int.floor_natCast]
  have : max (-((2 ^ (32 - 1) : ℕ) : ℤ)) (min (((2 ^ (32 - 1) : ℕ) : ℤ) - 1) (n : ℤ)) = n := by
    have : ((2 ^ (32 - 1) : ℕ) : ℤ) = 2147483648 := by norm_num
    rw [this]; omega
  rw [this]
  exact BitVec.ofInt_natCast 32 n

end Cert.MoE

end
-- ==== Proof.Tables.lean ====
/-
# The tables a device computes from the routing column

For each of its four experts and each token: whether the token is routed to the expert (the one-hot table, in both
orientations), and how many earlier tokens are (the count table, likewise). Then the dispatch table: row `32 k + s` and
token `t` hold one exactly if `t` is the token of rank `s`, `s < 25`, of the device's expert `k`.
-/
module

public import proofs.«01_k».proof.Proof.Flat
public import proofs.«01_k».proof.Proof.Counts
public import Idealize.ShloMosaic.Lib.Pointwise

@[expose] public section

noncomputable section

namespace Cert.MoE

open Cert.KernelIdeal Cert.KernelIdeal.Gen
open Idealize.ShloMosaic
open scoped BigOperators

/-- The expert a token is routed to. -/
def route (r : Vec Ideal S1024x1 .i32) (t : Fin 1024) : BitVec 32 := r (ix2 t 0)

/-- Expert `k` of the device whose position is `v`. -/
def expertW (v : BitVec 32) (k : Fin 4) : BitVec 32 := IntOp.addi (BitVec.ofNat 32 k.val) (Scalar.muli v 4#32)

theorem expertW_dev (c : Dev nD) (k : Fin 4) : expertW (devW c) k = BitVec.ofNat 32 (4 * c.val + k.val) := by
  revert c k; decide

/-! ## One-hots and counts -/

theorem onehot_apply (v : BitVec 32) (r : Vec Ideal S1024x1 .i32) (t : Fin 1024) (k : Fin 4) :
    k0_pay2 (F := Ideal) v r (ix2 t k) = bit (route r t = expertW v k) := by
  pointwise [k0_pay2, k0_pay1]
  exact sitofp_bit _ _ IntOp.cmpi_eq

theorem onehotT_apply (v : BitVec 32) (r : Vec Ideal S1024x1 .i32) (t : Fin 1024) (k : Fin 4) :
    k0_pay3 (F := Ideal) v r (ix2 k t) = bit (route r t = expertW v k) := by
  pointwise [k0_pay3, k0_pay1]
  exact sitofp_bit _ _ IntOp.cmpi_eq

theorem before_apply (s t : Fin 1024) : k0_pay4 (F := Ideal) (ix2 s t) = bit (s < t) := by
  pointwise [k0_pay4]
  exact sitofp_bit _ _ (slt_ofNat _ _ (by omega) (by omega))

/-- The products of the two bits, summed over the tokens, are the count. -/
theorem count_sum (ρ : Fin 1024 → BitVec 32) (e : BitVec 32) (t : Fin 1024) :
    ∑ s, bit (s < t) * bit (ρ s = e) = ((earlier ρ e t : ℕ) : EReal) := by
  rw [Finset.sum_congr rfl fun s _ => bit_mul_bit (s < t) (ρ s = e), sum_bit]
  rfl

theorem rank_apply (d : Dev nD) (r : Vec Ideal S1024x1 .i32) (t : Fin 1024) (k : Fin 4) :
    rankV (F := Ideal) d r (ix2 t k) = BitVec.ofNat 32 (earlier (route r) (expertW (devW d) k) t) := by
  pointwise [rankV, k0_pay5]
  rw [Finset.sum_congr rfl fun s _ => by
    rw [onehot_apply, sitofp_bit _ (s < t) (sgt_ofNat _ _ (by omega) (by omega))], count_sum]
  exact fptosi_count _ (lt_trans (earlier_lt _ _ _) (by norm_num))

theorem ind_apply (d : Dev nD) (r : Vec Ideal S1024x1 .i32) (t : Fin 1024) (k : Fin 4) :
    indV (F := Ideal) d r (ix2 t k) = bit (route r t = expertW (devW d) k) := by
  pointwise [indV, k0_pay6]
  exact onehot_apply _ _ _ _

/-- The same count from the transposed one-hots. -/
theorem rankT_apply (v : BitVec 32) (r : Vec Ideal S1024x1 .i32) (t : Fin 1024) (k : Fin 4) :
    FloatOps.fptosi (F := Ideal) (φ := FTy.f32) 32 (∑ s, k0_pay3 (F := Ideal) v r (ix2 k s) * k0_pay4 (F := Ideal) (ix2 s t))
      = BitVec.ofNat 32 (earlier (route r) (expertW v k) t) := by
  rw [Finset.sum_congr rfl fun s _ => by rw [onehotT_apply, before_apply, mul_comm], count_sum]
  exact fptosi_count _ (lt_trans (earlier_lt _ _ _) (by norm_num))

/-! ## Rows in four groups of 32 -/

/-- Row `s` of group `k`. -/
def row (k : Fin 4) (s : Fin 32) : Fin 128 := ⟨k.val * 32 + s.val, by omega⟩

/-- A choice by group, read in group `k`. -/
theorem group_apply {α : Type} (A : Fin 4 → ℕ → α) (k : Fin 4) (s : Fin 32) :
    (if (row k s).val < 32 then A 0 (row k s).val
      else if (row k s).val - 32 < 32 then A 1 ((row k s).val - 32)
      else if (row k s).val - 32 - 32 < 32 then A 2 ((row k s).val - 32 - 32)
      else A 3 ((row k s).val - 32 - 32 - 32)) = A k s.val := by
  have hs := s.isLt
  fin_cases k
  · have h : (row 0 s).val = s.val := by show 0 * 32 + s.val = _; omega
    exact (if_pos (by show (row 0 s).val < 32; omega)).trans (congrArg (A 0) h)
  · have h : (row 1 s).val = 32 + s.val := by show 1 * 32 + s.val = _; omega
    refine (if_neg (by show ¬(row 1 s).val < 32; omega)).trans ?_
    refine (if_pos (by show (row 1 s).val - 32 < 32; omega)).trans (congrArg (A 1) ?_)
    show (row 1 s).val - 32 = _; omega
  · have h : (row 2 s).val = 64 + s.val := by show 2 * 32 + s.val = _; omega
    refine (if_neg (by show ¬(row 2 s).val < 32; omega)).trans ?_
    refine (if_neg (by show ¬(row 2 s).val - 32 < 32; omega)).trans ?_
    refine (if_pos (by show (row 2 s).val - 32 - 32 < 32; omega)).trans (congrArg (A 2) ?_)
    show (row 2 s).val - 32 - 32 = _; omega
  · have h : (row 3 s).val = 96 + s.val := by show 3 * 32 + s.val = _; omega
    refine (if_neg (by show ¬(row 3 s).val < 32; omega)).trans ?_
    refine (if_neg (by show ¬(row 3 s).val - 32 < 32; omega)).trans ?_
    refine (if_neg (by show ¬(row 3 s).val - 32 - 32 < 32; omega)).trans (congrArg (A 3) ?_)
    show (row 3 s).val - 32 - 32 - 32 = _; omega

/-- A choice by group of a function of the row, the row named by its group's start and its place in the group. -/
theorem group_row_apply {α : Type} (A : Fin 4 → Fin 128 → α) (k : Fin 4) (s : Fin 32) :
    (if _h : (row k s).val < 32 then A 0 (row k s)
      else if h : (row k s).val - 32 < 32 then A 1 ⟨32 + ((row k s).val - 32), by omega⟩
      else if h : (row k s).val - 32 - 32 < 32 then A 2 ⟨64 + ((row k s).val - 32 - 32), by omega⟩
      else A 3 ⟨96 + ((row k s).val - 32 - 32 - 32), by omega⟩) = A k (row k s) := by
  have h := group_apply (fun k n => A k ⟨(32 * k.val + n) % 128, Nat.mod_lt _ (by norm_num)⟩) k s
  have hq := (row k s).isLt
  have e : ∀ (j : Fin 4) (a b : Fin 128), a = b → A j a = A j b := fun j a b hab => by rw [hab]
  refine Eq.trans ?_ (h.trans (e k _ _ (Fin.ext ?_)))
  · split_ifs with h1 h2 h3
    · exact e 0 _ _ (Fin.ext (by show _ = (32 * 0 + _) % 128; omega))
    · exact e 1 _ _ (Fin.ext (by show 32 + _ = (32 * 1 + _) % 128; omega))
    · exact e 2 _ _ (Fin.ext (by show 64 + _ = (32 * 2 + _) % 128; omega))
    · exact e 3 _ _ (Fin.ext (by show 96 + _ = (32 * 3 + _) % 128; omega))
  · show (32 * k.val + s.val) % 128 = k.val * 32 + s.val
    omega

/-- A sum over the 128 rows, group by group. -/
theorem sum_rows (f : Fin 128 → EReal) : ∑ q, f q = ∑ k : Fin 4, ∑ s : Fin 32, f (row k s) :=
  Fin.sum_univ_tiles 4 32 rfl f

/-! ## The dispatch table -/

/-- The bit of "this rank is `s`, and `s` is below the capacity". -/
theorem slot_bit (n s : ℕ) (hn : n < 1024) (hs : s < 32) :
    FloatOps.sitofp (F := Ideal) FTy.f32 (BitVec.setWidth 32
      (IntOp.andi (IntOp.cmpi .eq (BitVec.ofNat 32 n) (BitVec.ofNat 32 s)) (IntOp.cmpi .slt (BitVec.ofNat 32 s) 25#32)))
      = bit (n = s ∧ s < 25) :=
  sitofp_bit _ _ (by
    rw [IntOp.andi_eq_one, eq_ofNat n s (by omega) (by omega)]
    exact and_congr Iff.rfl (slt_ofNat s 25 (by omega) (by norm_num)))

theorem disp_apply (d : Dev nD) (r : Vec Ideal S1024x1 .i32) (k : Fin 4) (s : Fin 32) (t : Fin 1024) :
    dispV (F := Ideal) d r (ix2 (row k s) t)
      = bit ((earlier (route r) (expertW (devW d) k) t = s.val ∧ s.val < 25) ∧ route r t = expertW (devW d) k) := by
  pointwise [dispV, k0_pay7]
  simp only [dite_eq_ite]
  refine (group_apply (fun k n => FloatOps.sitofp (F := Ideal) FTy.f32 (BitVec.setWidth 32
      (IntOp.andi (IntOp.cmpi .eq (FloatOps.fptosi (F := Ideal) (φ := FTy.f32) 32
        (∑ s, k0_pay3 (F := Ideal) (devW d) r (ix2 k s) * k0_pay4 (F := Ideal) (ix2 s t))) (BitVec.ofNat 32 n))
        (IntOp.cmpi .slt (BitVec.ofNat 32 n) 25#32))) * k0_pay3 (F := Ideal) (devW d) r (ix2 k t)) k s).trans ?_
  rw [rankT_apply, onehotT_apply, slot_bit _ _ (earlier_lt _ _ _) s.isLt, bit_mul_bit]

end Cert.MoE

end
-- ==== Proof.Experts.lean ====
/-
# Dispatch, experts, and the chunk for 128 tokens

Row `32 k + s` of the dispatched tokens is the token of rank `s` of the device's expert `k`, so the experts' outputs hold
there that token's product with the expert's weights. The chunk picks them back out: its row for token `t` is the sum,
over the device's four experts, of `t`'s product with the expert's weights if `t` is routed to the expert and its rank is
below 25.
-/
module

public import proofs.«01_k».proof.Proof.Tables

@[expose] public section

noncomputable section

namespace Cert.MoE

open Cert.KernelIdeal Cert.KernelIdeal.Gen
open Idealize.ShloMosaic
open scoped BigOperators

/-- Token `t` is routed to `e`, and fewer than 25 earlier tokens are. -/
abbrev Kept (ρ : Fin 1024 → BitVec 32) (e : BitVec 32) (t : Fin 1024) : Prop := ρ t = e ∧ earlier ρ e t < 25

/-- Token `t` times one expert's weights, at output column `h`. -/
def product (x : Vec Ideal S1024x512 .f32) (w : Fin 512 → Fin 1024 → EReal) (t : Fin 1024) (h : Fin 1024) : EReal :=
  ∑ d : Fin 512, x (ix2 t d) * w d h

/-- The experts' outputs: the dispatched tokens times the weights of the row's expert. -/
theorem y_apply (d : Dev nD) (r : Vec Ideal S1024x1 .i32) (x : Vec Ideal S1024x512 .f32) (w : Fin 4 → Vec Ideal S1x512x1024 .f32)
    (k : Fin 4) (s : Fin 32) (h : Fin 1024) :
    yV (F := Ideal) d r x w (ix2 (row k s) h)
      = ∑ a : Fin 512, (∑ t : Fin 1024, dispV (F := Ideal) d r (ix2 (row k s) t) * x (ix2 t a)) * w k (ix3 0 a h) := by
  pointwise [yV, k0_pay8]
  exact group_row_apply (fun k q => ∑ a : Fin 512, (∑ t : Fin 1024, dispV (F := Ideal) d r (ix2 q t) * x (ix2 t a)) * w k (ix3 0 a h)) k s

theorem chunk_apply (Y : FVec Ideal S128x1024 .f32) (rj : Vec Ideal S128x4 .i32) (ij : Vec Ideal S128x4 .f32) (i : Fin 128) (h : Fin 1024) :
    chunkV (F := Ideal) Y rj ij (ix3 0 i h)
      = ∑ k : Fin 4, ∑ s : Fin 32, FloatOps.sitofp (F := Ideal) FTy.f32 (BitVec.setWidth 32
          (IntOp.andi (IntOp.cmpi .eq (rj (ix2 i k)) (BitVec.ofNat 32 s.val)) (IntOp.cmpi .slt (BitVec.ofNat 32 s.val) 25#32)))
          * ij (ix2 i k) * Y (ix2 (row k s) h) := by
  pointwise [chunkV, k0_pay15]
  simp only [dite_eq_ite]
  rw [sum_rows]
  refine Finset.sum_congr rfl fun k _ => Finset.sum_congr rfl fun s _ => congrArg (· * Y (ix2 (row k s) h)) ?_
  exact group_apply (fun k n => FloatOps.sitofp (F := Ideal) FTy.f32 (BitVec.setWidth 32
      (IntOp.andi (IntOp.cmpi .eq (rj (ix2 i k)) (BitVec.ofNat 32 n)) (IntOp.cmpi .slt (BitVec.ofNat 32 n) 25#32)))
      * ij (ix2 i k)) k s

/-- Where a token of rank `s` of expert `k` exists, row `32 k + s` holds that token's product. -/
theorem y_of_token (d : Dev nD) (r : Vec Ideal S1024x1 .i32) (x : Vec Ideal S1024x512 .f32) (w : Fin 4 → Vec Ideal S1x512x1024 .f32)
    (k : Fin 4) (s : Fin 32) (t : Fin 1024) (h : Fin 1024) (ht : route r t = expertW (devW d) k)
    (hs : earlier (route r) (expertW (devW d) k) t = s.val) (hs' : s.val < 25) :
    yV (F := Ideal) d r x w (ix2 (row k s) h) = product x (fun a h => w k (ix3 0 a h)) t h := by
  rw [y_apply]
  refine Finset.sum_congr rfl fun a _ => congrArg (· * w k (ix3 0 a h)) ?_
  rw [Finset.sum_eq_single t]
  · rw [disp_apply, bit_mul, if_pos ⟨⟨hs, hs'⟩, ht⟩]
  · intro u _ hu
    rw [disp_apply, bit_mul, if_neg]
    rintro ⟨⟨hus, _⟩, hur⟩
    exact hu (earlier_inj (route r) _ u t hur ht (hus.trans hs.symm))
  · exact fun hne => absurd (Finset.mem_univ t) hne

/-- The chunk's row for token `t`. -/
theorem chunk_row (d : Dev nD) (r : Vec Ideal S1024x1 .i32) (x : Vec Ideal S1024x512 .f32) (w : Fin 4 → Vec Ideal S1x512x1024 .f32)
    (rj : Vec Ideal S128x4 .i32) (ij : Vec Ideal S128x4 .f32) (i : Fin 128) (t : Fin 1024) (h : Fin 1024)
    (hr : ∀ k : Fin 4, rj (ix2 i k) = rankV (F := Ideal) d r (ix2 t k)) (hi : ∀ k : Fin 4, ij (ix2 i k) = indV (F := Ideal) d r (ix2 t k)) :
    chunkV (F := Ideal) (yV d r x w) rj ij (ix3 0 i h)
      = ∑ k : Fin 4, if Kept (route r) (expertW (devW d) k) t then product x (fun a h => w k (ix3 0 a h)) t h else 0 := by
  rw [chunk_apply]
  refine Finset.sum_congr rfl fun k _ => ?_
  have hn := earlier_lt (route r) (expertW (devW d) k) t
  rw [Finset.sum_congr rfl fun s _ => by
    rw [hr, hi, rank_apply, ind_apply, slot_bit _ _ hn s.isLt, bit_mul_bit, bit_mul]]
  by_cases hk : Kept (route r) (expertW (devW d) k) t
  · rw [if_pos hk, Finset.sum_eq_single (⟨earlier (route r) (expertW (devW d) k) t, by have := hk.2; omega⟩ : Fin 32)]
    · rw [if_pos ⟨⟨rfl, hk.2⟩, hk.1⟩]
      exact y_of_token d r x w k _ t h hk.1 rfl hk.2
    · intro s _ hs
      exact if_neg fun hc => hs (Fin.ext hc.1.1.symm)
    · exact fun hne => absurd (Finset.mem_univ _) hne
  · rw [if_neg hk]
    refine Finset.sum_eq_zero fun s _ => if_neg fun hc => hk ⟨hc.2, ?_⟩
    have := hc.1.1; have := hc.1.2; omega

end Cert.MoE

end
-- ==== Proof.Result.lean ====
/-
# What the result array holds, in terms of the arguments

The call has one grid point, and each of its windows is a whole array: what a device stages are its arguments, and what it
leaves in the staged result is its result. Then the result's element at row `i` of device `c`: the sum, over the eight
slots, of the chunk rows computed for token `128 c + i` by the eight devices.
-/
module

public import proofs.«01_k».proof.Proof.Launch
public import proofs.«01_k».proof.Proof.Experts
public import Idealize.ShloMosaic.Lib.Pipeline.ValueKit

@[expose] public section

noncomputable section

namespace Cert.MoE

open Cert.KernelIdeal Cert.KernelIdeal.Gen
open Idealize.ShloMosaic
open Idealize.ShloMosaic.TcCoe
open scoped BigOperators

/-! ## The windows are the whole arrays -/

section Windows

variable {F : FTy → Type} [FloatOps F] (m : (ℓ : Loc nD τ sig) → Buf (Elt F) ℓ)

theorem final_eq (c : Dev nD) : finalA m c (3 : Fin 4) = outC m c := by
  unfold finalA
  refine (dats m 0 c).arrAt_eq_of_after_last (3 : Fin 4) t0_0 (by decide +kernel) _ fun j => ?_
  rfl

theorem xC_eq (c : Dev nD) : xC m c = m ((c : Thread nD τ).loc main_arg0) := by
  funext j
  refine congrArg (m ((c : Thread nD τ).loc main_arg0)) (funext fun a => Fin.ext ?_)
  fin_cases a
  · exact (Nat.zero_add _).trans (Nat.one_mul _)
  · exact (Nat.zero_add _).trans (Nat.one_mul _)
theorem riC_eq (c : Dev nD) : riC m c = m ((c : Thread nD τ).loc main_arg2) := by
  funext j
  refine congrArg (m ((c : Thread nD τ).loc main_arg2)) (funext fun a => Fin.ext ?_)
  fin_cases a
  · exact (Nat.zero_add _).trans (Nat.one_mul _)
  · exact (Nat.zero_add _).trans (Nat.one_mul _)
theorem wC_eq (c : Dev nD) : wC m c = m ((c : Thread nD τ).loc main_arg3) := by
  funext j
  refine congrArg (m ((c : Thread nD τ).loc main_arg3)) (funext fun a => Fin.ext ?_)
  fin_cases a
  · exact (Nat.zero_add _).trans (Nat.one_mul _)
  · exact (Nat.zero_add _).trans (Nat.one_mul _)
  · exact (Nat.zero_add _).trans (Nat.one_mul _)

end Windows

/-! ## The parts a device reads -/

variable (m : (ℓ : Loc nD τ sig) → Buf (Elt Ideal) ℓ)

/-- Row `i` of the block of the device at position `p`. -/
def tok (p : Fin 8) (i : Fin 128) : Fin 1024 := ⟨p.val * 128 + i.val, by omega⟩

theorem wSl_apply (c : Dev nD) (k : Fin 4) (a : Fin 512) (h : Fin 1024) :
    wSl m c k (ix3 0 a h) = wC m c (ix3 k a h) := by
  refine congrArg (wC m c) (funext fun b => Fin.ext ?_)
  fin_cases b
  · show k.val + 1 * 0 = k.val
    omega
  · show 0 + 1 * a.val = a.val
    omega
  · show 0 + 1 * h.val = h.val
    omega

theorem rows_emb (c : Dev nD) (k : Fin 7) (i : Fin 128) (j : Fin 4) : (rowsR c k).emb (ix2 i j) = ix2 (tok (peer c k) i) j := by
  have h0 := congrFun (k0_off1_eq c k) 0
  have h1 := congrFun (k0_off1_eq c k) 1
  refine funext fun b => Fin.ext ?_
  fin_cases b
  · show k0_off1 c (BitVec.ofNat 32 (1 + k.val)) 0 + 1 * i.val = (c.val + k.val + 1) % 8 * 128 + i.val
    rw [h0]
    show 128 * _ + 1 * i.val = _
    omega
  · show k0_off1 c (BitVec.ofNat 32 (1 + k.val)) 1 + 1 * j.val = j.val
    rw [h1]
    show 0 + 1 * j.val = _
    omega
theorem own_emb (c : Dev nD) (i : Fin 128) (j : Fin 4) : (ownR c).emb (ix2 i j) = ix2 (tok c i) j := by
  have h0 := congrFun (k0_off2_eq c) 0
  have h1 := congrFun (k0_off2_eq c) 1
  refine funext fun b => Fin.ext ?_
  fin_cases b
  · show k0_off2 c 0 + 1 * i.val = c.val * 128 + i.val
    rw [h0]
    show 128 * c.val + 1 * i.val = _
    omega
  · show k0_off2 c 1 + 1 * j.val = j.val
    rw [h1]
    show 0 + 1 * j.val = _
    omega

/-! ## A chunk's rows, and the sum of the slots -/

/-- What device `c`'s four experts contribute to token `t`. -/
def contrib (c : Dev nD) (t h : Fin 1024) : EReal :=
  ∑ k : Fin 4, if Kept (route (riC m c)) (BitVec.ofNat 32 (4 * c.val + k.val)) t
    then product (xC m c) (fun a h => wC m c (ix3 k a h)) t h else 0

theorem chunk_contrib (c : Dev nD) (rj : Vec Ideal S128x4 .i32) (ij : Vec Ideal S128x4 .f32) (i : Fin 128) (t h : Fin 1024)
    (hr : ∀ k : Fin 4, rj (ix2 i k) = rankC m c (ix2 t k)) (hi : ∀ k : Fin 4, ij (ix2 i k) = indC m c (ix2 t k)) :
    chunkV (F := Ideal) (yC m c) rj ij (ix3 0 i h) = contrib m c t h := by
  refine (chunk_row c (riC m c) (xC m c) (wSl m c) rj ij i t h hr hi).trans ?_
  refine Finset.sum_congr rfl fun k _ => ?_
  rw [expertW_dev]
  refine if_congr Iff.rfl ?_ rfl
  exact Finset.sum_congr rfl fun a _ => congrArg (HMul.hMul (show EReal from xC m c (ix2 t a))) (wSl_apply m c k a h)

theorem chunkC_apply (c : Dev nD) (k : Fin 7) (i : Fin 128) (h : Fin 1024) :
    chunkC m c k (ix3 0 i h) = contrib m c (tok (peer c k) i) h :=
  chunk_contrib m c _ _ i _ h (fun j => congrArg (rankC m c) (rows_emb c k i j)) (fun j => congrArg (indC m c) (rows_emb c k i j))
theorem ownC_apply (c : Dev nD) (i : Fin 128) (h : Fin 1024) : ownC m c (ix3 0 i h) = contrib m c (tok c i) h :=
  chunk_contrib m c _ _ i _ h (fun j => congrArg (rankC m c) (own_emb c i j)) (fun j => congrArg (indC m c) (own_emb c i j))

/-- The device whose chunk lies in slot `s`. -/
def sender (c : Dev nD) : Fin 8 → Dev nD := Fin.cases c (fun k => peer c k.rev)

theorem sender_bij (c : Dev nD) : Function.Bijective (sender c) := by revert c; decide

theorem recvV_apply (c : Dev nD) (s : Fin 8) (i : Fin 128) (h : Fin 1024) :
    recvV m c s (ix3 0 i h) = contrib m (sender c s) (tok c i) h := by
  refine Fin.cases ?_ (fun k => ?_) s
  · exact ownC_apply m c i h
  · refine (chunkC_apply m (peer c k.rev) k i h).trans ?_
    rw [peer_rev']
    rfl

/-- The result at row `i`, column `h` of device `c`: every device's contribution to token `128 c + i`. -/
theorem outC_apply (c : Dev nD) (i : Fin 128) (h : Fin 1024) : @Eq EReal (outC m c (ix2 i h)) (∑ d : Dev nD, contrib m d (tok c i) h) := by
  have e : @Eq EReal (outC m c (ix2 i h)) (∑ s : Fin 8, packed (recvV m c) (ix3 s i h)) := by
    pointwise [outC, k0_pay34]
  refine e.trans (Eq.trans ?_ ((Equiv.ofBijective _ (sender_bij c)).sum_comp fun d => contrib m d (tok c i) h))
  refine Finset.sum_congr rfl fun s _ => ?_
  refine Eq.trans ?_ (recvV_apply m c s i h)
  refine congrArg (recvV m c s) (funext fun a => ?_)
  fin_cases a <;> rfl

end Cert.MoE

end
-- ==== Proof.RefValue.lean ====
/-
# What the reference computes

At token `t` and column `h`: the sum over the 32 experts of the token's product with the expert's weights, where the token
is routed to the expert and fewer than 25 earlier tokens are.
-/
module

public import proofs.«01_k».proof.Proof.Gen.ReferenceIdeal
public import proofs.«01_k».proof.Proof.Gen.ReferenceIdeal.Run
public import proofs.«01_k».proof.Proof.Experts
public import Idealize.ShloMosaic.Lib.Routing.OpsOne

@[expose] public section

noncomputable section

namespace Cert.MoE

open Cert.ReferenceIdeal Cert.ReferenceIdeal.Gen
open Idealize.ShloMosaic
open scoped BigOperators

/-- The layer: each token times the weights of the expert it is routed to, if that expert has room for it. -/
def layer (x : Vec Ideal S1024x512 .f32) (r : Vec Ideal S1024x1 .i32) (W : Vec Ideal S32x512x1024 .f32) (t h : Fin 1024) : EReal :=
  ∑ e : Fin 32, if Kept (route r) (BitVec.ofNat 32 e.val) t then product x (fun a h => W (ix3 e a h)) t h else 0

/-- Whether a token is routed to an expert, as the reference computes it. -/
def chosenR (r : Vec Ideal S1024x1 .i32) : IVec S1024x32 1 :=
  cmpi .eq (broadcastInDim S1024x32 ![0, 1] bcast_S1024x1_S1024x32_0_1 r)
    (broadcastInDim S1024x32 ![0, 1] bcast_S1x32_S1024x32_0_1 (broadcastInDim S1x32 ![1] bcast_S32_S1x32_1 (iotaInDim S32 32 0)))

theorem chosenR_apply (r : Vec Ideal S1024x1 .i32) (t : Fin 1024) (e : Fin 32) :
    chosenR r (ix2 t e) = IntOp.cmpi .eq (route r t) (BitVec.ofNat 32 e.val) := by
  pointwise [chosenR, route]

/-- How many earlier tokens are routed to the expert, as the reference computes it. -/
def beforeR (r : Vec Ideal S1024x1 .i32) : IVec S1024x32 32 :=
  subi (Host.reduceWindow IntOp.addi ![1024, 1] ![1, 1] ![1023, 0] ![0, 0] (extui 32 (chosenR r) natLt_1_32)
    (broadcastInDim S_ ![] bcast_S_S_ (constantI S_ 32 0#32)) reduceWindows_S1024x32_S1024x32_w1024s1p1023_0_w1s1p0_0 h_S_)
    (extui 32 (chosenR r) natLt_1_32)

theorem beforeR_apply (r : Vec Ideal S1024x1 .i32) (t : Fin 1024) (e : Fin 32) :
    beforeR r (ix2 t e) = BitVec.ofNat 32 (earlier (route r) (BitVec.ofNat 32 e.val) t) := by
  refine Eq.trans ?_ (prefix_words (route r) (BitVec.ofNat 32 e.val) t)
  refine congrArg₂ IntOp.subi ((Routing.cumsum_rows_sum (A := 1024) (Am1 := 1023) (N := 32) rfl (extui 32 (chosenR r) natLt_1_32)
    (broadcastInDim S_ ![] bcast_S_S_ (constantI S_ 32 0#32)) rfl reduceWindows_S1024x32_S1024x32_w1024s1p1023_0_w1s1p0_0 h_S_ t e).trans ?_) ?_
  · refine Finset.sum_congr rfl fun s _ => ?_
    exact if_congr Iff.rfl (congrArg (BitVec.setWidth 32) (chosenR_apply r s e)) rfl
  · exact congrArg (BitVec.setWidth 32) (chosenR_apply r t e)

/-- The reference's result, from its arguments. -/
def resultR (x : Vec Ideal S1024x512 .f32) (r : Vec Ideal S1024x1 .i32) (W : Vec Ideal S32x512x1024 .f32) : Vec Ideal S1024x1024 .f32 :=
  Host.reduceAdd (F := Ideal) (φ := FTy.f32) (select (broadcastInDim S1024x32x1024 ![0, 1, 2] bcast_S1024x32x1_S1024x32x1024_0_1_2
      (broadcastInDim S1024x32x1 ![0, 1] bcast_S1024x32_S1024x32x1_0_1 (andi (chosenR r)
        (cmpi .slt (beforeR r) (broadcastInDim S1024x32 ![] bcast_S_S1024x32 (constantI S_ 32 25#32))))))
      (Host.dotGeneral (F := Ideal) (φ₁ := FTy.f32) (φ₂ := FTy.f32) dot_S1024x512_S32x512x1024_S1024x32x1024_1_1_0_02_n_n none x W)
      (broadcastInDim S1024x32x1024 ![] bcast_S_S1024x32x1024 (id (constant (F := Ideal) S_ .f32 0x00000000#32))))
    (constant (F := Ideal) S_ .f32 0x00000000#32) reducesTo_S1024x32x1024_S1024x1024_d1 h_S_

theorem resultR_apply (x : Vec Ideal S1024x512 .f32) (r : Vec Ideal S1024x1 .i32) (W : Vec Ideal S32x512x1024 .f32) (t h : Fin 1024) :
    resultR x r W (ix2 t h) = layer x r W t h := by
  pointwise [resultR]
  unfold layer
  refine Finset.sum_congr rfl fun e _ => ?_
  rw [chosenR_apply, beforeR_apply]
  show (if _ = 1#1 then _ else _) = _
  refine if_congr ?_ rfl Ideal.ofBits_zero_f32
  rw [IntOp.andi_eq_one, IntOp.cmpi_eq]
  have hn := earlier_lt (route r) (BitVec.ofNat 32 e.val) t
  exact and_congr Iff.rfl (slt_ofNat _ 25 (by omega) (by norm_num))

end Cert.MoE

end
-- ==== Proof.Equation.lean ====
/-
# Kernel and reference compute the same array

From arguments that agree as the two programs' arguments do, each device's result block is its block of rows of the
layer's result; then both runs together.
-/
module

public import proofs.«01_k».proof.Defs
public import proofs.«01_k».proof.Proof.Result
public import proofs.«01_k».proof.Proof.RefValue
public import proofs.«01_k».proof.Proof.Frames

@[expose] public section

noncomputable section

namespace Cert.MoE

open Cert.KernelIdeal Cert.KernelIdeal.Gen
open Idealize.ShloMosaic
open Idealize.ShloMosaic.TcCoe
open Idealize.SL.Sem
open scoped BigOperators

/-- Device `c`'s block of rows of a whole result. -/
abbrev rowsOf (c : Fin 8) (v : Vec Ideal S1024x1024 .f32) : Vec Ideal S128x1024 .f32 :=
  Layout.block ⟨2, ![128, 1024]⟩ ⟨2, ![1024, 1024]⟩ 0 8 c v

/-- Device `c`'s four experts' weights, of all 32. -/
abbrev expertsOf (c : Fin 8) (W : Vec Ideal Cert.ReferenceIdeal.S32x512x1024 .f32) : Vec Ideal S4x512x1024 .f32 :=
  Layout.block ⟨3, ![4, 512, 1024]⟩ ⟨3, ![32, 512, 1024]⟩ 0 8 c W

theorem rowsOf_apply (c : Fin 8) (v : Vec Ideal S1024x1024 .f32) (i : Fin 128) (h : Fin 1024) :
    rowsOf c v (ix2 i h) = v (ix2 (tok c i) h) := by
  refine congrArg v (funext fun b => Fin.ext ?_)
  fin_cases b <;> rfl

theorem expertsOf_apply (c : Fin 8) (W : Vec Ideal Cert.ReferenceIdeal.S32x512x1024 .f32) (k : Fin 4) (a : Fin 512) (h : Fin 1024) :
    expertsOf c W (ix3 k a h) = W (ix3 ⟨c.val * 4 + k.val, by omega⟩ a h) := by
  refine congrArg W (funext fun b => Fin.ext ?_)
  fin_cases b <;> rfl

/-- Of a device that holds all the tokens and its four experts' weights: its contribution is the layer's sum over those experts. -/
theorem contrib_eq (m : (ℓ : Loc nD τ sig) → Buf (Elt Ideal) ℓ) (x : Vec Ideal S1024x512 .f32) (r : Vec Ideal S1024x1 .i32)
    (W : Vec Ideal Cert.ReferenceIdeal.S32x512x1024 .f32) (c : Dev nD) (hx : xC m c = x) (hr : riC m c = r)
    (hW : wC m c = expertsOf c W) (t h : Fin 1024) :
    contrib m c t h = ∑ k : Fin 4, if Kept (route r) (BitVec.ofNat 32 (c.val * 4 + k.val)) t
      then product x (fun a h => W (ix3 ⟨c.val * 4 + k.val, by have := c.isLt; have : nD = 8 := rfl; omega⟩ a h)) t h else 0 := by
  unfold contrib
  rw [hx, hr, hW]
  refine Finset.sum_congr rfl fun k _ => ?_
  rw [Nat.mul_comm 4]
  refine if_congr Iff.rfl ?_ rfl
  exact congrArg (fun w => product x w t h) (funext fun a => funext fun h => expertsOf_apply c W k a h)

/-- Each device's result is its block of rows of the reference's. -/
theorem out_eq (m : (ℓ : Loc nD τ sig) → Buf (Elt Ideal) ℓ) (x : Vec Ideal S1024x512 .f32) (r : Vec Ideal S1024x1 .i32)
    (W : Vec Ideal Cert.ReferenceIdeal.S32x512x1024 .f32) (hx : ∀ c, xC m c = x) (hr : ∀ c, riC m c = r)
    (hW : ∀ c : Dev nD, wC m c = expertsOf c W) (c : Dev nD) : outC m c = rowsOf c (resultR x r W) := by
  funext j
  obtain ⟨i, h, rfl⟩ : ∃ (i : Fin 128) (h : Fin 1024), j = ix2 i h := ⟨j 0, j 1, eq_ix2 j⟩
  refine (outC_apply m c i h).trans (Eq.symm ?_)
  refine ((rowsOf_apply c (resultR x r W) i h).trans (resultR_apply x r W (tok c i) h)).trans ?_
  unfold layer
  rw [Fin.sum_univ_tiles 8 4 rfl]
  exact Finset.sum_congr rfl fun d _ => (contrib_eq m x r W d (hx d) (hr d) (hW d) (tok c i) h).symm

theorem value_eq : Cert.algebraic_KernelIdeal_ReferenceIdeal (hKernelIdeal := Cert.KernelIdeal.Gen.facts)
    (hReferenceIdeal := Cert.ReferenceIdeal.Gen.facts) := by
  intro m g m' g' _ harg
  refine ⟨resultR (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg2))
    (m' (((0 : Dev Cert.ReferenceIdeal.nD).tc : Thread _ Cert.ReferenceIdeal.τ).loc Cert.ReferenceIdeal.main_arg3)), ?_, ?_⟩
  · refine (θ_run defs _ _).mono (fun _ hq c => ?_) (run_args (F := Ideal) m g)
    obtain ⟨h, h0, h1, h2, h3⟩ := hq.1 c
    refine ⟨h.trans ((final_eq m c).trans (out_eq m _ _ _ (fun c => ?_) (fun c => ?_) (fun c => ?_) c)), h0, h1, h2, h3⟩
    · exact (xC_eq m c).trans (harg c).1
    · exact (riC_eq m c).trans (harg c).2.2.1
    · exact (wC_eq m c).trans (harg c).2.2.2
  · exact (θ_run Cert.ReferenceIdeal.defs _ _).mono (fun _ hq => hq 0) (Cert.ReferenceIdeal.Value.run (F := Ideal) m' g')

end Cert.MoE

end
-- ==== Proof.lean ====
/-
# The claim

The three frames, and the equality of kernel and reference over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.RefFrame
public import proofs.«01_k».proof.Proof.Equation

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.MoE.frame_bits, Cert.MoE.frame_ideal, Cert.MoE.frame_ref, trivial, Cert.MoE.value_eq⟩

end Cert.Proof

end
